-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x4096 : Shape := ⟨2, ![512, 4096]⟩
abbrev S8x128x4096 : Shape := ⟨3, ![8, 128, 4096]⟩
abbrev S8x128x512 : Shape := ⟨3, ![8, 128, 512]⟩
abbrev S_ : Shape := ⟨0, ![]⟩
abbrev S8 : Shape := ⟨1, ![8]⟩
abbrev S16 : Shape := ⟨1, ![16]⟩
abbrev S1 : Shape := ⟨1, ![1]⟩
abbrev S1x128x4096 : Shape := ⟨3, ![1, 128, 4096]⟩
abbrev S128x4096 : Shape := ⟨2, ![128, 4096]⟩
abbrev S128x512 : Shape := ⟨2, ![128, 512]⟩
abbrev S1x128x512 : Shape := ⟨3, ![1, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S512x4096, .f32⟩
  | .local _ .vmem, ⟨1, _⟩ => ⟨S8x128x4096, .f32⟩
  | .local _ .vmem, ⟨2, _⟩ => ⟨S8x128x512, .f32⟩
  | .local _ .vmem, ⟨3, _⟩ => ⟨S8x128x512, .f32⟩
  | .local _ .vmem, ⟨4, _⟩ => ⟨S8x128x512, .f32⟩
  | .local _ .vmem, ⟨5, _⟩ => ⟨S8x128x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v11 : BitVec 32 := Scalar.muli v2 c512_i32
  let c0_i32 : BitVec 32 := 0#32
  ![v11.toNat, 0]
def k0_dev1 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v54 : BitVec 32 := Scalar.muli v2 c8_i32_43
  let v55 : BitVec 32 := Scalar.addi c0_i32_44 v54
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_45 : BitVec 32 := 4#32
  let v56 : BitVec 32 := Scalar.muli v9 c4_i32_45
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v58 : BitVec 32 := Scalar.muli v8 c1_i32_46
  let v59 : BitVec 32 := Scalar.addi v57 v58
  v59.toNat
def k0_dev2 (d0 : Dev nD) : Nat :=
  let c0_i32_49 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_48 : BitVec 32 := 8#32
  let v60 : BitVec 32 := Scalar.muli v10 c8_i32_48
  let v61 : BitVec 32 := Scalar.addi c0_i32_49 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v62 : BitVec 32 := Scalar.muli v5 c4_i32_50
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v64 : BitVec 32 := Scalar.muli v8 c1_i32_51
  let v65 : BitVec 32 := Scalar.addi v63 v64
  v65.toNat
def k0_dev3 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v79 : BitVec 32 := Scalar.muli v2 c8_i32_71
  let v80 : BitVec 32 := Scalar.addi c0_i32_72 v79
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v81 : BitVec 32 := Scalar.muli v9 c4_i32_73
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v83 : BitVec 32 := Scalar.muli v8 c1_i32_74
  let v84 : BitVec 32 := Scalar.addi v82 v83
  v84.toNat
def k0_dev4 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v105 : BitVec 32 := Scalar.muli v2 c8_i32_97
  let v106 : BitVec 32 := Scalar.addi c0_i32_98 v105
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_99 : BitVec 32 := 4#32
  let v107 : BitVec 32 := Scalar.muli v9 c4_i32_99
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v109 : BitVec 32 := Scalar.muli v8 c1_i32_100
  let v110 : BitVec 32 := Scalar.addi v108 v109
  v110.toNat
def k0_dev5 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v131 : BitVec 32 := Scalar.muli v2 c8_i32_123
  let v132 : BitVec 32 := Scalar.addi c0_i32_124 v131
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_125 : BitVec 32 := 4#32
  let v133 : BitVec 32 := Scalar.muli v9 c4_i32_125
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v135 : BitVec 32 := Scalar.muli v8 c1_i32_126
  let v136 : BitVec 32 := Scalar.addi v134 v135
  v136.toNat
def k0_dev6 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v157 : BitVec 32 := Scalar.muli v2 c8_i32_149
  let v158 : BitVec 32 := Scalar.addi c0_i32_150 v157
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v159 : BitVec 32 := Scalar.muli v9 c4_i32_151
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v161 : BitVec 32 := Scalar.muli v8 c1_i32_152
  let v162 : BitVec 32 := Scalar.addi v160 v161
  v162.toNat
def k0_dev7 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v183 : BitVec 32 := Scalar.muli v2 c8_i32_175
  let v184 : BitVec 32 := Scalar.addi c0_i32_176 v183
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_177 : BitVec 32 := 4#32
  let v185 : BitVec 32 := Scalar.muli v9 c4_i32_177
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v187 : BitVec 32 := Scalar.muli v8 c1_i32_178
  let v188 : BitVec 32 := Scalar.addi v186 v187
  v188.toNat
def k0_dev8 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v209 : BitVec 32 := Scalar.muli v2 c8_i32_201
  let v210 : BitVec 32 := Scalar.addi c0_i32_202 v209
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_203 : BitVec 32 := 4#32
  let v211 : BitVec 32 := Scalar.muli v9 c4_i32_203
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v213 : BitVec 32 := Scalar.muli v8 c1_i32_204
  let v214 : BitVec 32 := Scalar.addi v212 v213
  v214.toNat
def k0_dev9 (d0 : Dev nD) : Nat :=
  let c0_i32_228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_227 : BitVec 32 := 8#32
  let v235 : BitVec 32 := Scalar.muli v2 c8_i32_227
  let v236 : BitVec 32 := Scalar.addi c0_i32_228 v235
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_229 : BitVec 32 := 4#32
  let v237 : BitVec 32 := Scalar.muli v9 c4_i32_229
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v239 : BitVec 32 := Scalar.muli v8 c1_i32_230
  let v240 : BitVec 32 := Scalar.addi v238 v239
  v240.toNat
def k0_dev10 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v261 : BitVec 32 := Scalar.muli v2 c8_i32_253
  let v262 : BitVec 32 := Scalar.addi c0_i32_254 v261
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_255 : BitVec 32 := 4#32
  let v263 : BitVec 32 := Scalar.muli v9 c4_i32_255
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v265 : BitVec 32 := Scalar.muli v8 c1_i32_256
  let v266 : BitVec 32 := Scalar.addi v264 v265
  v266.toNat
def k0_dev11 (d0 : Dev nD) : Nat :=
  let c0_i32_287 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_286 : BitVec 32 := 8#32
  let v295 : BitVec 32 := Scalar.muli v10 c8_i32_286
  let v296 : BitVec 32 := Scalar.addi c0_i32_287 v295
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_288 : BitVec 32 := 4#32
  let v297 : BitVec 32 := Scalar.muli v5 c4_i32_288
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v299 : BitVec 32 := Scalar.muli v8 c1_i32_289
  let v300 : BitVec 32 := Scalar.addi v298 v299
  v300.toNat
def k0_off2 (d0 : Dev nD) : Fin 2 → Nat :=
  let c0_i32_297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_294 : BitVec 32 := 512#32
  let v309 : BitVec 32 := Scalar.muli v2 c512_i32_294
  ![0, v309.toNat]
def k0_dev12 (d0 : Dev nD) : Nat :=
  let c0_i32_326 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_325 : BitVec 32 := 8#32
  let v335 : BitVec 32 := Scalar.muli v10 c8_i32_325
  let v336 : BitVec 32 := Scalar.addi c0_i32_326 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_327 : BitVec 32 := 4#32
  let v337 : BitVec 32 := Scalar.muli v5 c4_i32_327
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v339 : BitVec 32 := Scalar.muli v8 c1_i32_328
  let v340 : BitVec 32 := Scalar.addi v338 v339
  v340.toNat
def k0_off3 (d0 : Dev nD) : Fin 2 → Nat :=
  let c128_i32_336 : BitVec 32 := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_333 : BitVec 32 := 512#32
  let v349 : BitVec 32 := Scalar.muli v2 c512_i32_333
  ![128, v349.toNat]
def k0_dev13 (d0 : Dev nD) : Nat :=
  let c0_i32_365 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_364 : BitVec 32 := 8#32
  let v375 : BitVec 32 := Scalar.muli v10 c8_i32_364
  let v376 : BitVec 32 := Scalar.addi c0_i32_365 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_366 : BitVec 32 := 4#32
  let v377 : BitVec 32 := Scalar.muli v5 c4_i32_366
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v379 : BitVec 32 := Scalar.muli v8 c1_i32_367
  let v380 : BitVec 32 := Scalar.addi v378 v379
  v380.toNat
def k0_off4 (d0 : Dev nD) : Fin 2 → Nat :=
  let c256_i32_375 : BitVec 32 := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_372 : BitVec 32 := 512#32
  let v389 : BitVec 32 := Scalar.muli v2 c512_i32_372
  ![256, v389.toNat]
def k0_off5 (d0 : Dev nD) : Fin 2 → Nat :=
  let c0_i32_394 : BitVec 32 := 0#32
  let c1_i32_390 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v407 : BitVec 32 := Scalar.subi c1_i32_390 v2
  let c512_i32_391 : BitVec 32 := 512#32
  let v408 : BitVec 32 := Scalar.muli v407 c512_i32_391
  ![0, v408.toNat]
def k0_dev14 (d0 : Dev nD) : Nat :=
  let c0_i32_423 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_422 : BitVec 32 := 8#32
  let v434 : BitVec 32 := Scalar.muli v10 c8_i32_422
  let v435 : BitVec 32 := Scalar.addi c0_i32_423 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v436 : BitVec 32 := Scalar.muli v5 c4_i32_424
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_425 : BitVec 32 := 1#32
  let v438 : BitVec 32 := Scalar.muli v8 c1_i32_425
  let v439 : BitVec 32 := Scalar.addi v437 v438
  v439.toNat
def k0_off6 (d0 : Dev nD) : Fin 2 → Nat :=
  let c384_i32_433 : BitVec 32 := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_430 : BitVec 32 := 512#32
  let v448 : BitVec 32 := Scalar.muli v2 c512_i32_430
  ![384, v448.toNat]
def k0_off7 (d0 : Dev nD) : Fin 2 → Nat :=
  let c128_i32_451 : BitVec 32 := 128#32
  let c1_i32_448 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v466 : BitVec 32 := Scalar.subi c1_i32_448 v2
  let c512_i32_449 : BitVec 32 := 512#32
  let v467 : BitVec 32 := Scalar.muli v466 c512_i32_449
  ![128, v467.toNat]
def k0_dev15 (d0 : Dev nD) : Nat :=
  let c0_i32_480 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_479 : BitVec 32 := 8#32
  let v493 : BitVec 32 := Scalar.muli v10 c8_i32_479
  let v494 : BitVec 32 := Scalar.addi c0_i32_480 v493
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v495 : BitVec 32 := Scalar.muli v5 c4_i32_481
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v497 : BitVec 32 := Scalar.muli v8 c1_i32_482
  let v498 : BitVec 32 := Scalar.addi v496 v497
  v498.toNat
def k0_off8 (d0 : Dev nD) : Fin 2 → Nat :=
  let c512_i32_490 : BitVec 32 := 512#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_487 : BitVec 32 := 512#32
  let v507 : BitVec 32 := Scalar.muli v2 c512_i32_487
  ![512, v507.toNat]
def k0_off9 (d0 : Dev nD) : Fin 2 → Nat :=
  let c256_i32_508 : BitVec 32 := 256#32
  let c1_i32_505 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v525 : BitVec 32 := Scalar.subi c1_i32_505 v2
  let c512_i32_506 : BitVec 32 := 512#32
  let v526 : BitVec 32 := Scalar.muli v525 c512_i32_506
  ![256, v526.toNat]
def k0_dev16 (d0 : Dev nD) : Nat :=
  let c0_i32_537 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_536 : BitVec 32 := 8#32
  let v552 : BitVec 32 := Scalar.muli v10 c8_i32_536
  let v553 : BitVec 32 := Scalar.addi c0_i32_537 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_538 : BitVec 32 := 4#32
  let v554 : BitVec 32 := Scalar.muli v5 c4_i32_538
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v556 : BitVec 32 := Scalar.muli v8 c1_i32_539
  let v557 : BitVec 32 := Scalar.addi v555 v556
  v557.toNat
def k0_off10 (d0 : Dev nD) : Fin 2 → Nat :=
  let c640_i32_547 : BitVec 32 := 640#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_544 : BitVec 32 := 512#32
  let v566 : BitVec 32 := Scalar.muli v2 c512_i32_544
  ![640, v566.toNat]
def k0_off11 (d0 : Dev nD) : Fin 2 → Nat :=
  let c384_i32_565 : BitVec 32 := 384#32
  let c1_i32_562 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v584 : BitVec 32 := Scalar.subi c1_i32_562 v2
  let c512_i32_563 : BitVec 32 := 512#32
  let v585 : BitVec 32 := Scalar.muli v584 c512_i32_563
  ![384, v585.toNat]
def k0_dev17 (d0 : Dev nD) : Nat :=
  let c0_i32_594 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_593 : BitVec 32 := 8#32
  let v611 : BitVec 32 := Scalar.muli v10 c8_i32_593
  let v612 : BitVec 32 := Scalar.addi c0_i32_594 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_595 : BitVec 32 := 4#32
  let v613 : BitVec 32 := Scalar.muli v5 c4_i32_595
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v615 : BitVec 32 := Scalar.muli v8 c1_i32_596
  let v616 : BitVec 32 := Scalar.addi v614 v615
  v616.toNat
def k0_off12 (d0 : Dev nD) : Fin 2 → Nat :=
  let c768_i32_604 : BitVec 32 := 768#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_601 : BitVec 32 := 512#32
  let v625 : BitVec 32 := Scalar.muli v2 c512_i32_601
  ![768, v625.toNat]
def k0_off13 (d0 : Dev nD) : Fin 2 → Nat :=
  let c512_i32_622 : BitVec 32 := 512#32
  let c1_i32_619 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v643 : BitVec 32 := Scalar.subi c1_i32_619 v2
  let c512_i32_620 : BitVec 32 := 512#32
  let v644 : BitVec 32 := Scalar.muli v643 c512_i32_620
  ![512, v644.toNat]
def k0_dev18 (d0 : Dev nD) : Nat :=
  let c0_i32_651 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_650 : BitVec 32 := 8#32
  let v670 : BitVec 32 := Scalar.muli v10 c8_i32_650
  let v671 : BitVec 32 := Scalar.addi c0_i32_651 v670
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_652 : BitVec 32 := 4#32
  let v672 : BitVec 32 := Scalar.muli v5 c4_i32_652
  let v673 : BitVec 32 := Scalar.addi v671 v672
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_653 : BitVec 32 := 1#32
  let v674 : BitVec 32 := Scalar.muli v8 c1_i32_653
  let v675 : BitVec 32 := Scalar.addi v673 v674
  v675.toNat
def k0_off14 (d0 : Dev nD) : Fin 2 → Nat :=
  let c896_i32_661 : BitVec 32 := 896#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_658 : BitVec 32 := 512#32
  let v684 : BitVec 32 := Scalar.muli v2 c512_i32_658
  ![896, v684.toNat]
def k0_off15 (d0 : Dev nD) : Fin 2 → Nat :=
  let c640_i32_679 : BitVec 32 := 640#32
  let c1_i32_676 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v702 : BitVec 32 := Scalar.subi c1_i32_676 v2
  let c512_i32_677 : BitVec 32 := 512#32
  let v703 : BitVec 32 := Scalar.muli v702 c512_i32_677
  ![640, v703.toNat]
def k0_off16 (d0 : Dev nD) : Fin 2 → Nat :=
  let c768_i32_697 : BitVec 32 := 768#32
  let c1_i32_694 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v721 : BitVec 32 := Scalar.subi c1_i32_694 v2
  let c512_i32_695 : BitVec 32 := 512#32
  let v722 : BitVec 32 := Scalar.muli v721 c512_i32_695
  ![768, v722.toNat]
def k0_off17 (d0 : Dev nD) : Fin 2 → Nat :=
  let c896_i32_715 : BitVec 32 := 896#32
  let c1_i32_712 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v740 : BitVec 32 := Scalar.subi c1_i32_712 v2
  let c512_i32_713 : BitVec 32 := 512#32
  let v741 : BitVec 32 := Scalar.muli v740 c512_i32_713
  ![896, v741.toNat]
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
# The kernel's body in steps

The printed body is one long line of operations. This module restates it as a line of STEPS, each a short program over
a chunk number `j : Fin 8`: the eight partial products, the eight reductions, the eight drains of the x exchange and
the closing waits. `body_eq` says that the printed body is that line.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic Idealize.ShloMosaic.TcCoe Idealize.SL.Sem

variable {F : FTy → Type} [FloatOps F]

/-! ## The memrefs -/

abbrev dyM : Memref sig .tc .hbm S1024x4096 .f32 := Memref.whole main_arg0
abbrev wM : Memref sig .tc .hbm S1024x4096 .f32 := Memref.whole main_arg1
abbrev oM : Memref sig .tc .hbm S1024x1024 .f32 := Memref.whole main_v1
abbrev wxM : Memref sig .tc .vmem S512x4096 .f32 := Memref.whole cc0_scratch0
abbrev dyBuf : Memref sig .tc .vmem S8x128x4096 .f32 := Memref.whole cc0_scratch1
abbrev pBuf : Memref sig .tc .vmem S8x128x512 .f32 := Memref.whole cc0_scratch2
abbrev yBuf : Memref sig .tc .vmem S8x128x512 .f32 := Memref.whole cc0_scratch3
abbrev redBuf : Memref sig .tc .vmem S8x128x512 .f32 := Memref.whole cc0_scratch4
abbrev xBuf : Memref sig .tc .vmem S8x128x512 .f32 := Memref.whole cc0_scratch5

theorem inbT (j : Fin 8) : ∀ a, (![j.val, 0, 0] : Fin 3 → ℕ) a + S1x128x512.size a ≤ S8x128x512.size a := by
  revert j; decide
theorem inbD (j : Fin 8) : ∀ a, (![j.val, 0, 0] : Fin 3 → ℕ) a + S1x128x4096.size a ≤ S8x128x4096.size a := by
  revert j; decide
theorem inbR (j : Fin 8) : ∀ a, (![128 * j.val, 0] : Fin 2 → ℕ) a + S128x4096.size a ≤ S1024x4096.size a := by
  revert j; decide
theorem inb8 (j : Fin 8) : ∀ a, (![j.val] : Fin 1 → ℕ) a + S1.size a ≤ S8.size a := by
  revert j; decide
theorem inb16 (j : Fin 16) : ∀ a, (![j.val] : Fin 1 → ℕ) a + S1.size a ≤ S16.size a := by
  revert j; decide

/-- Slot `j` of an eight-slot tile buffer, as a rectangle. -/
abbrev rT (j : Fin 8) : Rect S8x128x512 := Rect.unit (s := S8x128x512) ![j.val, 0, 0] S1x128x512.size (inbT j)
/-- Slot `j` of the buffer of `dy` chunks, as a rectangle. -/
abbrev rD (j : Fin 8) : Rect S8x128x4096 := Rect.unit (s := S8x128x4096) ![j.val, 0, 0] S1x128x4096.size (inbD j)
/-- Slot `j` of an eight-slot tile buffer. -/
abbrev tile (b : Memref sig .tc .vmem S8x128x512 .f32) (j : Fin 8) : Memref sig .tc .vmem S128x512 .f32 :=
  (b.slice (rT j) (fun _ => rfl)).squeeze S128x512 squeezes_S1x128x512_S128x512
/-- Slot `j` of the buffer of `dy` chunks. -/
abbrev dySlot (j : Fin 8) : Memref sig .tc .vmem S128x4096 .f32 :=
  (dyBuf.slice (rD j) (fun _ => rfl)).squeeze S128x4096 squeezes_S1x128x4096_S128x4096
/-- Rows `128 j …` of the `dy` operand. -/
abbrev dyRows (j : Fin 8) : Memref sig .tc .hbm S128x4096 .f32 :=
  dyM.slice (Rect.unit (s := S1024x4096) ![128 * j.val, 0] S128x4096.size (inbR j)) (fun _ => rfl)
/-- The half of the `W` operand's rows that the device with id `d` uses. -/
abbrev wRows (d : Dev nD) : Memref sig .tc .hbm S512x4096 .f32 :=
  wM.slice (Rect.unit (s := S1024x4096) (k0_off1 d) S512x4096.size (k0_off1_inb d)) (fun _ => rfl)

/-- Where in the result chunk `j` of the device's own half lies. -/
def offA (d : Dev nD) (j : Fin 8) : Fin 2 → ℕ := ![128 * j.val, k0_off2 d 1]
/-- Where in the result chunk `j` of the other half lies. -/
def offB (d : Dev nD) (j : Fin 8) : Fin 2 → ℕ := ![128 * j.val, k0_off5 d 1]
theorem offA_inb (d : Dev nD) (j : Fin 8) : ∀ a, offA d j a + S128x512.size a ≤ S1024x1024.size a := by
  revert d j; decide +kernel
theorem offB_inb (d : Dev nD) (j : Fin 8) : ∀ a, offB d j a + S128x512.size a ≤ S1024x1024.size a := by
  revert d j; decide +kernel
/-- Chunk `j` of the result's own half. -/
abbrev outA (d : Dev nD) (j : Fin 8) : Memref sig .tc .hbm S128x512 .f32 :=
  oM.slice (Rect.unit (s := S1024x1024) (offA d j) S128x512.size (offA_inb d j)) (fun _ => rfl)
/-- Chunk `j` of the result's other half. -/
abbrev outB (d : Dev nD) (j : Fin 8) : Memref sig .tc .hbm S128x512 .f32 :=
  oM.slice (Rect.unit (s := S1024x1024) (offB d j) S128x512.size (offB_inb d j)) (fun _ => rfl)

/-- Semaphore `j` of an array of eight. -/
abbrev sem8 (s : DmaSems sig S8) (j : Fin 8) : DmaSem sig :=
  ((s.slice (Rect.unit (s := S8) ![j.val] S1.size (inb8 j))).squeeze S_ squeezes_S1_S_).sem
/-- Semaphore `j` of an array of sixteen. -/
abbrev sem16 (s : DmaSems sig S16) (j : Fin 16) : DmaSem sig :=
  ((s.slice (Rect.unit (s := S16) ![j.val] S1.size (inb16 j))).squeeze S_ squeezes_S1_S_).sem
abbrev lo (j : Fin 8) : Fin 16 := ⟨j.val, by omega⟩
abbrev hi (j : Fin 8) : Fin 16 := ⟨8 + j.val, by omega⟩

abbrev yDev (d : Dev nD) : Dev nD := ⟨k0_dev1 d, k0_dev1_lt d⟩
abbrev xDev (d : Dev nD) : Dev nD := ⟨k0_dev2 d, k0_dev2_lt d⟩
abbrev barS : Sem sig := (SemArray.scalar (sig.barrier 0 rfl) : Sems sig S_).sem

/-! ## The steps -/

@[reducible] def Step (F : FTy → Type) : Type 1 := Prog (TpuEff nD τ sig (Elt F) Λ₀ .tc) PUnit.{1}

/-- Start the copy of the device's half of `W`. -/
def startW (d : Dev nD) : Step F :=
  Prog.lift (.enqueueDma (wRows d) (.here wxM) (.dma cc0_scratch6.sem) (View.wordExact_bits rfl) (Memref.isWhole_whole _).wordExact ⟨Or.inl rfl, trivial⟩)
/-- Start the copy of chunk `j` of `dy`. -/
def startDy (j : Fin 8) : Step F :=
  Prog.lift (.enqueueDma (dyRows j) (.here (dySlot j)) (.dma (sem8 cc0_scratch7 j)) (View.wordExact_bits rfl) ((View.wordExact_bits rfl).reshape _ _) ⟨Or.inl rfl, trivial⟩)
/-- Signal both partners and wait for both. -/
def meet (d : Dev nD) : Prog (TpuEff nD τ sig (Elt F) Λ₀ .tc) PUnit.{1} := do
  semSignalWord (yDev d) barS 1#32
  semSignalWord (xDev d) barS 1#32
  semWaitWord barS 2#32
/-- Wait for the copy of `W`. -/
def waitW (d : Dev nD) : Step F :=
  Prog.lift (.waitDma2 cc0_scratch6.sem (wRows d) wxM (View.wordExact_bits rfl) (Memref.isWhole_whole _).wordExact)
/-- Chunk `j`'s partial product, sent to the y partner. -/
def stepA (d : Dev nD) (j : Fin 8) : Prog (TpuEff nD τ sig (Elt F) Λ₀ .tc) PUnit.{1} := do
  Prog.lift (.waitDma2 (sem8 cc0_scratch7 j) (dyRows j) (dySlot j) (View.wordExact_bits rfl) ((View.wordExact_bits rfl).reshape _ _))
  let v : Vec F S1x128x4096 .f32 ← Prog.lift (.load dyBuf (rD j).toLoadRect (View.loadsAt_vmem h_S1x128x4096))
  let w : Vec F S512x4096 .f32 ← Prog.lift (.load wxM (Rect.unit (s := S512x4096) ![0, 0] S512x4096.size inb_S512x4096_S512x4096_0_0).toLoadRect (View.loadsAt_vmem h_S512x4096))
  let _ : Vec F S1x128x512 .f32 ← Prog.lift (.load pBuf (rT j).toLoadRect (View.loadsAt_vmem h_S1x128x512))
  Prog.lift (.store pBuf (rT j) (k0_pay1 v w) Finset.univ (View.stores_vmem_bits_univ h_S1x128x512 rfl) (.inl rfl))
  Prog.lift (.enqueueDma (tile pBuf j) (.remote (Dev.tc (yDev d)) (tile yBuf j) (.dma (sem8 cc0_scratch8 j))) (.dma (sem8 cc0_scratch9 j)) ((View.wordExact_bits rfl).reshape _ _) ((View.wordExact_bits rfl).reshape _ _) ⟨⟨rfl, Or.inl rfl⟩, trivial⟩)
/-- Chunk `j` reduced, sent to the x partner and copied out to the device's own half. -/
def stepB (d : Dev nD) (j : Fin 8) : Prog (TpuEff nD τ sig (Elt F) Λ₀ .tc) PUnit.{1} := do
  Prog.lift (.waitDma2 (sem8 cc0_scratch9 j) (tile pBuf j) (tile yBuf j) ((View.wordExact_bits rfl).reshape _ _) ((View.wordExact_bits rfl).reshape _ _))
  let v : Vec F S1x128x512 .f32 ← Prog.lift (.load pBuf (rT j).toLoadRect (View.loadsAt_vmem h_S1x128x512))
  let w : Vec F S1x128x512 .f32 ← Prog.lift (.load yBuf (rT j).toLoadRect (View.loadsAt_vmem h_S1x128x512))
  let _ : Vec F S1x128x512 .f32 ← Prog.lift (.load redBuf (rT j).toLoadRect (View.loadsAt_vmem h_S1x128x512))
  Prog.lift (.store redBuf (rT j) (k0_pay9 v w) Finset.univ (View.stores_vmem_bits_univ h_S1x128x512 rfl) (.inl rfl))
  Prog.lift (.enqueueDma (tile redBuf j) (.remote (Dev.tc (xDev d)) (tile xBuf j) (.dma (sem8 cc0_scratch10 j))) (.dma (sem8 cc0_scratch11 j)) ((View.wordExact_bits rfl).reshape _ _) ((View.wordExact_bits rfl).reshape _ _) ⟨⟨rfl, Or.inl rfl⟩, trivial⟩)
  Prog.lift (.enqueueDma (tile redBuf j) (.here (outA d j)) (.dma (sem16 cc0_scratch12 (lo j))) ((View.wordExact_bits rfl).reshape _ _) (View.wordExact_bits rfl) ⟨Or.inl rfl, trivial⟩)
/-- Chunk `j` of the other half received and copied out. -/
def stepD (d : Dev nD) (j : Fin 8) : Prog (TpuEff nD τ sig (Elt F) Λ₀ .tc) PUnit.{1} := do
  Prog.lift (.waitDma2 (sem8 cc0_scratch11 j) (tile redBuf j) (tile xBuf j) ((View.wordExact_bits rfl).reshape _ _) ((View.wordExact_bits rfl).reshape _ _))
  Prog.lift (.enqueueDma (tile xBuf j) (.here (outB d j)) (.dma (sem16 cc0_scratch12 (hi j))) ((View.wordExact_bits rfl).reshape _ _) (View.wordExact_bits rfl) ⟨Or.inl rfl, trivial⟩)
/-- Wait until chunk `j`'s two sends have left. -/
def waitSent (j : Fin 8) : Prog (TpuEff nD τ sig (Elt F) Λ₀ .tc) PUnit.{1} := do
  Prog.lift (.waitDma2 (sem8 cc0_scratch8 j) (tile yBuf j) (tile pBuf j) ((View.wordExact_bits rfl).reshape _ _) ((View.wordExact_bits rfl).reshape _ _))
  Prog.lift (.waitDma2 (sem8 cc0_scratch10 j) (tile xBuf j) (tile redBuf j) ((View.wordExact_bits rfl).reshape _ _) ((View.wordExact_bits rfl).reshape _ _))
/-- Wait for chunk `j`'s copy to the own half. -/
def waitA (d : Dev nD) (j : Fin 8) : Step F :=
  Prog.lift (.waitDma2 (sem16 cc0_scratch12 (lo j)) (tile redBuf j) (outA d j) ((View.wordExact_bits rfl).reshape _ _) (View.wordExact_bits rfl))
/-- Wait for chunk `j`'s copy to the other half. -/
def waitB (d : Dev nD) (j : Fin 8) : Step F :=
  Prog.lift (.waitDma2 (sem16 cc0_scratch12 (hi j)) (tile xBuf j) (outB d j) ((View.wordExact_bits rfl).reshape _ _) (View.wordExact_bits rfl))

/-- One after another. -/
def line : List (Step F) → Step F
  | [] => .ret ⟨⟩
  | s :: ss => s.bind fun _ => line ss

/-- The eight chunks' programs one after another. -/
abbrev chunks (f : Fin 8 → Step F) : List (Step F) := [f 0, f 1, f 2, f 3, f 4, f 5, f 6, f 7]

/-- Reductions and drains, a drain two chunks behind its reduction. -/
abbrev laced (b d : Fin 8 → Step F) : List (Step F) :=
  [b 0, b 1, b 2, d 0, b 3, d 1, b 4, d 2, b 5, d 3, b 6, d 4, b 7, d 5, d 6, d 7]

/-- The body's steps on the device `d`. -/
def steps (d : Dev nD) : List (Step F) :=
  startW d :: (chunks startDy ++ meet d :: waitW d :: (chunks (stepA d) ++ (laced (stepB d) (stepD d) ++ (chunks waitSent ++ laced (waitA d) (waitB d)))))

set_option maxRecDepth 65536 in
/-- The printed body reads its device id and then runs the steps in order. -/
theorem body_eq : cc0_body (F := F) dyM (Memref.isWhole_whole _) wM (Memref.isWhole_whole _) oM (Memref.isWhole_whole _)
      wxM (Memref.isWhole_whole _) dyBuf (Memref.isWhole_whole _) pBuf (Memref.isWhole_whole _) yBuf (Memref.isWhole_whole _)
      redBuf (Memref.isWhole_whole _) xBuf (Memref.isWhole_whole _)
      cc0_scratch6 cc0_scratch7 cc0_scratch8 cc0_scratch9 cc0_scratch10 cc0_scratch11 cc0_scratch12
    = (do let d : Dev nD ← Prog.lift .deviceId; line (steps d)) := by
  chain_rfl

end Cert.KernelProof

end
-- ==== Proof.Sched.lean ====
/-
# The schedule

What each device computes, chunk by chunk; the semaphores by name; which units each semaphore is owed, by whom, and
which pieces of memory come with them; and the levels that order the waits.

The mesh is 2 × 2 × 4 with device id `8 x + 4 y + z`. A device's y partner holds the other half of the contraction's
columns and its x partner the other half of the result's columns.
-/
module

public import proofs.«01_k».proof.Proof.Steps
public import Idealize.ShloMosaic.Lib.MemrefSat
public import Idealize.ShloMosaic.Lib.Pipeline.BigSepL

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

theorem yDev_yDev (c : Dev nD) : yDev (yDev c) = c := by revert c; decide +kernel
theorem xDev_xDev (c : Dev nD) : xDev (xDev c) = c := by revert c; decide +kernel
theorem yDev_ne (c : Dev nD) : yDev c ≠ c := by revert c; decide +kernel
theorem xDev_ne (c : Dev nD) : xDev c ≠ c := by revert c; decide +kernel
theorem yDev_ne_xDev (c : Dev nD) : yDev c ≠ xDev c := by revert c; decide +kernel
theorem yDev_xDev (c : Dev nD) : yDev (xDev c) = xDev (yDev c) := by revert c; decide +kernel

def yEquiv : Dev nD ≃ Dev nD := ⟨yDev, yDev, yDev_yDev, yDev_yDev⟩
def xEquiv : Dev nD ≃ Dev nD := ⟨xDev, xDev, xDev_xDev, xDev_xDev⟩

/-! ## What is computed -/

/-- The half of `W`'s rows that device `c` uses. -/
def wV (c : Dev nD) : Vec F S512x4096 .f32 := (wRows c).view.read (Elt F) (m ((c : Thread nD τ).loc main_arg1))
/-- Chunk `j` of device `c`'s `dy`. -/
def dyV (c : Dev nD) (j : Fin 8) : Vec F S128x4096 .f32 := (dyRows j).view.read (Elt F) (m ((c : Thread nD τ).loc main_arg0))
/-- Device `c`'s partial product of chunk `j`. -/
def pV (c : Dev nD) (j : Fin 8) : Vec F S128x512 .f32 :=
  matmul (φ₁ := .f32) (φ₂ := .f32) dot_S128x4096_S512x4096_S128x512_1_1_0_0_n_n none (dyV m c j) (wV m c) (constant S128x512 .f32 0x00000000#32)
/-- Device `c`'s reduced chunk `j`: its own partial product plus its y partner's. -/
def rV (c : Dev nD) (j : Fin 8) : Vec F S128x512 .f32 := addf (φ := .f32) (pV m c j) (pV m (yDev c) j)

/-! ## The semaphores -/

/-- The DMA semaphores: the one of the copy of `W`, and seven families of eight. -/
abbrev Kd : Type := Unit ⊕ (Fin 7 × Fin 8)

abbrev kW : Kd := .inl ()
/-- The copy of a chunk of `dy`. -/
abbrev kDy (j : Fin 8) : Kd := .inr (0, j)
/-- A partial product's departure. -/
abbrev kYs (j : Fin 8) : Kd := .inr (1, j)
/-- The y partner's partial product's arrival. -/
abbrev kYr (j : Fin 8) : Kd := .inr (2, j)
/-- A reduced chunk's departure. -/
abbrev kXs (j : Fin 8) : Kd := .inr (3, j)
/-- The x partner's reduced chunk's arrival. -/
abbrev kXr (j : Fin 8) : Kd := .inr (4, j)
/-- The copy to the own half of the result. -/
abbrev kA (j : Fin 8) : Kd := .inr (5, j)
/-- The copy to the other half of the result. -/
abbrev kB (j : Fin 8) : Kd := .inr (6, j)

def semOf : Kd → DmaSem sig
  | .inl _ => cc0_scratch6.sem
  | .inr (0, j) => sem8 cc0_scratch7 j
  | .inr (1, j) => sem8 cc0_scratch8 j
  | .inr (2, j) => sem8 cc0_scratch9 j
  | .inr (3, j) => sem8 cc0_scratch10 j
  | .inr (4, j) => sem8 cc0_scratch11 j
  | .inr (5, j) => sem16 cc0_scratch12 (lo j)
  | .inr (6, j) => sem16 cc0_scratch12 (hi j)

/-- The name of a semaphore, from its number. -/
def kindOf (q : DmaSem sig) : Kd :=
  if q.val = 0 then .inl ()
  else .inr (⟨((q.val - 1) / 8) % 7, Nat.mod_lt _ (by decide)⟩, ⟨(q.val - 1) % 8, Nat.mod_lt _ (by decide)⟩)

theorem kindOf_semOf (k : Kd) : kindOf (semOf k) = k := by revert k; decide +kernel
theorem semOf_kindOf (q : DmaSem sig) : semOf (kindOf q) = q := by revert q; decide +kernel
theorem semOf_injective : Function.Injective semOf := fun a b h => by rw [← kindOf_semOf a, h, kindOf_semOf]

abbrev cell (c : Dev nD) (k : Kd) : GSem nD τ sig := ((c : Thread nD τ), .dma (semOf k))
abbrev barCell (c : Dev nD) : GSem nD τ sig := ((c : Thread nD τ), .reg barS)

/-- The units of one tile's transfer. -/
abbrev N : ℕ := (tile pBuf 0).view.dmaCredit
/-- The units a round of semaphore `k` takes. -/
def amt : Kd → ℕ
  | .inl _ => wxM.view.dmaCredit
  | .inr (0, j) => (dySlot j).view.dmaCredit
  | .inr (_, _) => N

theorem amt_pos (k : Kd) : 0 < amt k := by revert k; decide +kernel

/-! ## The schedule -/

/-- A memref owned whole, at some contents. -/
def any (c : Dev nD) {sp : Space} {s : Shape} {e : EltTy} (M : Memref sig .tc sp s e) : sProp 𝕄 :=
  ownsSat (c : Thread nD τ) M fullShare (fun _ => True)

/-- Ownership at known contents, the device explicit. -/
abbrev own (c : Dev nD) {sp : Space} {s : Shape} {e : EltTy} (M : Memref sig .tc sp s e) (q : PosShare TreeShare) (X : s.Idx → Elt F e) : sProp 𝕄 :=
  owns (c : Thread nD τ) M q X

abbrev lh : PosShare TreeShare := fullShare.left
abbrev rh : PosShare TreeShare := fullShare.right

/-- What comes with the units of semaphore `k` of device `c`. -/
def pay (c : Dev nD) : Kd → sProp 𝕄
  | .inl _ => iprop(own c wxM fullShare (wV m c) ∗ own c (wRows c) fullShare (wV m c))
  | .inr (0, j) => iprop(own c (dySlot j) fullShare (dyV m c j) ∗ own c (dyRows j) fullShare (dyV m c j))
  | .inr (1, j) => own c (tile pBuf j) rh (pV m c j)
  | .inr (2, j) => own c (tile yBuf j) fullShare (pV m (yDev c) j)
  | .inr (3, j) => own c (tile redBuf j) rh (rV m c j)
  | .inr (4, j) => own c (tile xBuf j) fullShare (rV m (xDev c) j)
  | .inr (5, j) => iprop(own c (outA c j) fullShare (rV m c j) ∗ own c (tile redBuf j) lh (rV m c j))
  | .inr (6, j) => iprop(own c (outB c j) fullShare (rV m (xDev c) j) ∗ own c (tile xBuf j) fullShare (rV m (xDev c) j))

/-- What a partner's barrier signal hands over: its landing tiles. -/
def barPay (c : Dev nD) : Bool → sProp 𝕄
  | false => bigSep Finset.univ fun j => any (yDev c) (tile yBuf j)
  | true => bigSep Finset.univ fun j => any (xDev c) (tile xBuf j)

instance pay_storable (c : Dev nD) (k : Kd) : BI.Storable (upEmb : UEmb _ 𝕄) (pay (F := F) m c k) := by
  rcases k with _ | ⟨a, j⟩
  · unfold pay own; infer_instance
  · fin_cases a <;> (unfold pay own; dsimp only; infer_instance)

omit [FloatOps F] in
instance any_storable (c : Dev nD) {sp : Space} {s : Shape} {e : EltTy} (M : Memref sig .tc sp s e) :
    BI.Storable (upEmb : UEmb _ 𝕄) (any (F := F) c M) := by
  unfold any ownsSat; infer_instance

omit [FloatOps F] in
instance barPay_storable (c : Dev nD) (b : Bool) : BI.Storable (upEmb : UEmb _ 𝕄) (barPay (F := F) c b) := by
  cases b <;> (unfold barPay; infer_instance)

/-- One round per semaphore: the barrier is raised by each partner, every other semaphore by one transfer. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt (kindOf q)
  payload g _ b := match g.2 with | .reg _ => barPay g.1.1 b | .dma q => pay m g.1.1 (kindOf q)
  amount_pos g _ _ _ := by
    cases g.2 with
    | reg _ => exact Nat.one_pos
    | dma q => exact amt_pos _

instance rd_storable (g : GSem nD τ sig) (r : ℕ) (b : Bool) : BI.Storable (upEmb : UEmb _ 𝕄) ((rd (F := F) m).payload g r b) := by
  obtain ⟨t, s⟩ := g
  cases s with
  | reg _ => show BI.Storable upEmb (barPay t.1 b); infer_instance
  | dma q => show BI.Storable upEmb (pay m t.1 (kindOf q)); infer_instance

section Facts
variable (c : Dev nD) (k : Kd) (b : Bool)

theorem duties_cell : (rd (F := F) m).duties (cell c k) 0 = {false} := by dsimp only [rd]; exact if_pos ⟨rfl, rfl⟩
theorem duties_bar : (rd (F := F) m).duties (barCell c) 0 = Finset.univ := by dsimp only [rd]; exact if_pos ⟨rfl, rfl⟩
theorem duties_later (g : GSem nD τ sig) : ∀ r, 1 ≤ r → (rd (F := F) m).duties g r = ∅ :=
  fun r hr => by dsimp only [rd]; exact if_neg fun h => by omega
theorem amount_cell : (rd (F := F) m).amount (cell c k) 0 b = amt k := by
  show amt (kindOf (semOf k)) = amt k; rw [kindOf_semOf]
theorem amount_bar : (rd (F := F) m).amount (barCell c) 0 b = 1 := rfl
theorem expect_cell : (rd (F := F) m).expect (cell c k) 0 = amt k := by
  unfold Schedule.expect Schedule.amountOf; rw [duties_cell, Finset.sum_singleton, amount_cell]
theorem expect_bar : (rd (F := F) m).expect (barCell c) 0 = 2 := by
  unfold Schedule.expect Schedule.amountOf; rw [duties_bar]; rfl
theorem payload_cell : (rd (F := F) m).payload (cell c k) 0 b = pay m c k := by
  show pay m c (kindOf (semOf k)) = pay m c k; rw [kindOf_semOf]
theorem payload_bar : (rd (F := F) m).payload (barCell c) 0 b = barPay c b := rfl
theorem rest_cell : bigSep ((rd (F := F) m).duties (cell c k) 0 \ ∅) (fun b => (rd (F := F) m).payload (cell c k) 0 b) = pay m c k := by
  rw [Finset.sdiff_empty, duties_cell, bigSep_singleton, payload_cell]
theorem rest_bar : bigSep ((rd (F := F) m).duties (barCell c) 0 \ ∅) (fun b => (rd (F := F) m).payload (barCell c) 0 b)
    = iprop(barPay c false ∗ barPay c true) := by
  rw [Finset.sdiff_empty, duties_bar, show (Finset.univ : Finset Bool) = {false, true} by decide, bigSep_insert (by decide), bigSep_singleton]
  rfl
end Facts

/-! ## What each device owes; the levels -/

/-- Device `c` owes its y partner the arrival of chunk `j`. -/
abbrev oweY (c : Dev nD) (j : Fin 8) : CellTallies nD τ sig Unit := tallyAt (cell (yDev c) (kYr j)) () N
/-- Device `c` owes its x partner the arrival of chunk `j`. -/
abbrev oweX (c : Dev nD) (j : Fin 8) : CellTallies nD τ sig Unit := tallyAt (cell (xDev c) (kXr j)) () N
/-- Everything device `c` owes once past the barrier. -/
def oweAll (c : Dev nD) : CellTallies nD τ sig Unit := (∑ j, oweY c j) + ∑ j, oweX c j
/-- Everything device `c` owes at the start. -/
def oweStart (c : Dev nD) : CellTallies nD τ sig Unit :=
  (oweAll c + tallyAt (barCell (xDev c)) () 1) + tallyAt (barCell (yDev c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK : Kd → ℕ
  | .inr (2, _) => 2
  | .inr (4, j) => 3 + j.val
  | _ => 0
/-- Local copies and departures lowest, then the barrier, the y arrivals, and the x arrivals in the order of chunks. -/
def lv (g : GSem nD τ sig) (_ : Unit) : ℕ := match g.2 with | .reg _ => 1 | .dma q => lvK (kindOf q)
theorem lv_cell (c : Dev nD) (k : Kd) (u : Unit) : lv (cell c k) u = lvK k := by
  show lvK (kindOf (semOf k)) = lvK k; rw [kindOf_semOf]

/-- A debt made of y and x arrivals only, the x arrivals above the level `n`. -/
def Above (c : Dev nD) (n : ℕ) (O : CellTallies nD τ sig Unit) : Prop :=
  ∀ g u, 0 < O g u → (∃ d : Dev nD, ∃ k : Kd, g = cell d k) ∧ n < lv g u

theorem above_zero (c : Dev nD) (n : ℕ) : Above c n 0 := fun g u h => absurd h (Nat.lt_irrefl 0)
theorem above_add {c : Dev nD} {n : ℕ} {O O' : CellTallies nD τ sig Unit} (h : Above c n O) (h' : Above c n O') : Above c n (O + O') := fun g u hg => by
  rw [Pi.add_apply, Finsupp.add_apply] at hg
  rcases Nat.eq_zero_or_pos (O g u) with h0 | h0
  · exact h' g u (by omega)
  · exact h g u h0
theorem above_tally {c : Dev nD} {n : ℕ} {d : Dev nD} {k : Kd} {x : ℕ} (h : n < lvK k) : Above c n (tallyAt (cell d k) () x) := fun g u hg => by
  rw [tallyAt_apply] at hg
  by_cases hh : g = cell d k ∧ u = ()
  · obtain ⟨rfl, rfl⟩ := hh; exact ⟨⟨d, k, rfl⟩, by rw [lv_cell]; exact h⟩
  · rw [if_neg hh] at hg; exact absurd hg (Nat.lt_irrefl 0)
theorem above_sum {c : Dev nD} {n : ℕ} {I : Type} (l : List I) (f : I → CellTallies nD τ sig Unit) (h : ∀ i ∈ l, Above c n (f i)) :
    Above c n (l.map f).sum := by
  induction l with
  | nil => exact above_zero c n
  | cons i l ih =>
    rw [List.map_cons, List.sum_cons]
    exact above_add (h i List.mem_cons_self) (ih fun i hi => h i (List.mem_cons_of_mem _ hi))

omit [FloatOps F] in
/-- A wait below everything owed is allowed. -/
theorem mayWait (c : Dev nD) (sm : SemLoc sig) (n : ℕ) (hsm : lv ((c : Thread nD τ), sm) () ≤ n) (O : CellTallies nD τ sig Unit) (h : Above c n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨⟨d, k, rfl⟩, -⟩ := h g u hg; rw [L_tc]; exact Finset.mem_singleton_self _)
    (fun p hp => by rw [Finset.mem_singleton.mp hp]; exact hsm)
    (fun g u hg => (h g u hg).2)

omit [FloatOps F] in
theorem mayWait_cell (c : Dev nD) (k : Kd) (O : CellTallies nD τ sig Unit) (h : Above c (lvK k) O) :
    (levAts L lv : sProp 𝕄) ⊢ MayWait (c : Thread nD τ) (.dma (semOf k)) () O := by
  refine mayWait c _ (lvK k) ?_ O h
  rw [show ((c : Thread nD τ), SemLoc.dma (semOf k)) = cell c k from rfl, lv_cell]

end Cert.KernelProof

end
-- ==== Proof.Rules.lean ====
/-
# The rules of the steps

One rule per kind of operation — a load or a store of a tile, a local copy, a send, a wait — over pieces of memory owned
at known contents, and a rule that runs a list of steps whose pieces are independent of one another.
-/
module

public import proofs.«01_k».proof.Proof.Sched
public import Idealize.ShloMosaic.Lib.Exec.Geometry
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is known throughout -/

/-- The semaphores of a device: the barrier and the DMA semaphores. -/
abbrev Cl : Type := Unit ⊕ Kd
def gcell : Dev nD × Cl → GSem nD τ sig
  | (c, .inl _) => barCell c
  | (c, .inr k) => cell c k

/-- Every semaphore follows the schedule, under the names `K`. -/
def recs (K : Dev nD × Cl → ℕ) : sProp 𝕄 :=
  iprop((bigSep Finset.univ fun ck : Dev nD × Cl => cellInv ER (rd m) (K ck) (gcell ck))
    ∗ bigSep Finset.univ fun ck : Dev nD × Cl => reached ER (gcell ck) 0)
instance recs_persistent (K : Dev nD × Cl → ℕ) : BI.Persistent (recs m K) := by unfold recs; infer_instance

/-- The schedule's records and the levels. -/
def ctx (K : Dev nD × Cl → ℕ) : sProp 𝕄 := iprop(recs m K ∗ levAts L lv)
instance ctx_persistent (K : Dev nD × Cl → ℕ) : BI.Persistent (ctx m K) := by unfold ctx; infer_instance

variable (K : Dev nD × Cl → ℕ)

theorem inv_at (ck : Dev nD × Cl) :
    (bigSep Finset.univ fun ck : Dev nD × Cl => (cellInv ER (rd m) (K ck) (gcell ck) : sProp 𝕄)) ⊢ cellInv ER (rd m) (K ck) (gcell ck) :=
  bigSep_elim (Finset.mem_univ ck)
omit [FloatOps F] in
theorem reached_at (ck : Dev nD × Cl) :
    (bigSep Finset.univ fun ck : Dev nD × Cl => (reached ER (gcell ck) 0 : sProp 𝕄)) ⊢ reached ER (gcell ck) 0 :=
  bigSep_elim (Finset.mem_univ ck)
theorem ctx_inv (ck : Dev nD × Cl) : ctx m K ⊢ cellInv ER (rd m) (K ck) (gcell ck) := by
  unfold ctx recs
  iintro ⟨⟨H, -⟩, -⟩
  iapply (inv_at m K ck); iexact H
theorem ctx_reached (ck : Dev nD × Cl) : ctx m K ⊢ reached ER (gcell ck) 0 := by
  unfold ctx recs
  iintro ⟨⟨-, H⟩, -⟩
  iapply (reached_at ck); iexact H
theorem ctx_mayWait (c : Dev nD) (k : Kd) (O : CellTallies nD τ sig Unit) (hO : Above c (lvK k) O) :
    ctx m K ⊢ MayWait (c : Thread nD τ) (.dma (semOf k)) () O := by
  unfold ctx
  iintro ⟨-, H⟩
  iapply (mayWait_cell c k O hO); iexact H
theorem ctx_mayWait_bar (c : Dev nD) (O : CellTallies nD τ sig Unit) (hO : Above c 1 O) :
    ctx m K ⊢ MayWait (c : Thread nD τ) (.reg barS) () O := by
  unfold ctx
  iintro ⟨-, H⟩
  iapply (mayWait c (.reg barS) 1 le_rfl O hO); iexact H

/-- The debt of device `c`, whatever it has waited for. -/
def debt (c : Dev nD) (O : CellTallies nD τ sig Unit) : sProp 𝕄 := iprop(∃ W, owes (c : Thread nD τ) O W)

abbrev tok (c : Dev nD) (k : Kd) : sProp 𝕄 := dutyTok ER (cell c k) 0 false
abbrev crd (c : Dev nD) (k : Kd) : sProp 𝕄 := cred (tallyAt (cell c k) () (amt k))
abbrev pos0 (c : Dev nD) (k : Kd) : sProp 𝕄 := atPos ER (cell c k) 0 ∅ 0
abbrev pos1 (c : Dev nD) (k : Kd) : sProp 𝕄 := atPos ER (cell c k) 1 ∅ 0

/-! ## Owned pieces -/

theorem own_any (c : Dev nD) {sp : Space} {s : Shape} {e : EltTy} (M : Memref sig .tc sp s e) (X : s.Idx → Elt F e) :
    own c M fullShare X ⊢ any c M := ownsSat_intro (c : Thread nD τ) M fullShare trivial
theorem any_own (c : Dev nD) {sp : Space} {s : Shape} {e : EltTy} (M : Memref sig .tc sp s e) :
    any (F := F) c M ⊢ iprop(∃ X, own c M fullShare X) := ownsSat_any (c : Thread nD τ) M fullShare

section Access
variable (c : Dev nD)

/-- A load of a slot reads the slot's contents. -/
theorem wp_load_slot {α : Type} {Q : α → sProp 𝕄} {s s' : Shape} (M : Memref sig .tc .vmem s .f32) (r : Rect s) (hr : ∀ a, r.stride a = 1) (hq : r.shape.Squeezes s')
    (hc : r.shape.ShapeCasts s') (hc' : s'.ShapeCasts r.shape) {q : PosShare TreeShare} {X : s'.Idx → Elt F .f32}
    {hl : M.view.LoadsAt r.toLoadRect} {k : (r.shape.Idx → Elt F .f32) → Prog (TpuEff nD τ sig (Elt F) Λ₀ .tc) α} :
    own c ((M.slice r hr).squeeze s' hq) q X
      ⊢ iprop((own c ((M.slice r hr).squeeze s' hq) q X -∗ run c (k (shapeCast r.shape X hc')) Q)
          -∗ run c (.op (.load M r.toLoadRect hl) k) Q) := by
  unfold own owns
  iintro ⟨%f, %hf, H⟩ Hk
  have hset : ((M.slice r hr).squeeze s' hq).view.set = M.view.setOn r.toLoadRect.set := by
    exact (View.set_reshape _ _).trans (View.set_slice _ _)
  have hX : M.view.readAt (Elt F) r.toLoadRect f = shapeCast r.shape X hc' := by
    rw [← hf, Memref.read_squeeze_slice M r hr hq hc, shapeCast_shapeCast]
  iapply (wp_load 𝒱₀ (c : Thread nD τ) none Set.univ (S := ((M.slice r hr).squeeze s' hq).view.set) (q := q) (f := f) hset.ge) $$ H
  iintro H
  rw [hX]
  iapply Hk
  iexists f
  isplitr; · ipureintro; exact hf
  iexact H

/-- A load of a slot whose value is not used. -/
theorem wp_load_skip {α : Type} {Q : α → sProp 𝕄} {s s' : Shape} (M : Memref sig .tc .vmem s .f32) (r : Rect s) (hr : ∀ a, r.stride a = 1) (hq : r.shape.Squeezes s')
    (hc : r.shape.ShapeCasts s') (hc' : s'.ShapeCasts r.shape)
    {hl : M.view.LoadsAt r.toLoadRect} {p : Prog (TpuEff nD τ sig (Elt F) Λ₀ .tc) α} :
    any c ((M.slice r hr).squeeze s' hq)
      ⊢ iprop((any c ((M.slice r hr).squeeze s' hq) -∗ run c p Q) -∗ run c (.op (.load M r.toLoadRect hl) fun _ => p) Q) := by
  iintro H Hk
  ihave H' := (any_own c _) $$ H
  icases H' with ⟨%X, H⟩
  iapply (wp_load_slot c M r hr hq hc hc') $$ H
  iintro H
  iapply Hk
  iapply (own_any c _ X); iexact H

/-- A store to a slot leaves the stored contents in it. -/
theorem wp_store_slot {α : Type} {Q : α → sProp 𝕄} {s s' : Shape} (M : Memref sig .tc .vmem s .f32) (r : Rect s) (hr : ∀ a, r.stride a = 1) (hq : r.shape.Squeezes s')
    (hc : r.shape.ShapeCasts s') (hc' : s'.ShapeCasts r.shape) (X : s'.Idx → Elt F .f32) (w : r.shape.Idx → Elt F .f32)
    (hw : w = shapeCast r.shape X hc') {hx : (M.access r).Stores Finset.univ} {hm : Finset.univ = Finset.univ ∨ ∀ a, r.stride a = 1}
    {k : PUnit → Prog (TpuEff nD τ sig (Elt F) Λ₀ .tc) α} :
    any c ((M.slice r hr).squeeze s' hq)
      ⊢ iprop((own c ((M.slice r hr).squeeze s' hq) fullShare X -∗ run c (k ⟨⟩) Q)
          -∗ run c (.op (.store M r w Finset.univ hx hm) k) Q) := by
  subst hw
  iintro H Hk
  ihave H' := (any_own c _) $$ H
  unfold own owns
  icases H' with ⟨%Y, %f, %hf, H⟩
  have hset : ((M.slice r hr).squeeze s' hq).view.set = (M.access r).setOn Finset.univ := by
    exact (View.set_reshape _ _).trans rfl
  iapply (wp_store 𝒱₀ (c : Thread nD τ) none Set.univ (S := ((M.slice r hr).squeeze s' hq).view.set) (f := f) hset.ge) $$ H
  iintro H
  iapply Hk
  iexists _
  isplitr
  swap
  · iexact H
  · ipureintro
    rw [Memref.read_squeeze_slice M r hr hq hc]
    show shapeCast s' ((M.access r).read (Elt F) ((M.access r).write (Elt F) f (shapeCast r.shape X hc') Finset.univ)) hc = X
    rw [View.read_write_univ, shapeCast_shapeCast]

/-- A load of the whole buffer of `W`'s half. -/
theorem wp_load_W {α : Type} {Q : α → sProp 𝕄} {q : PosShare TreeShare} {X : Vec F S512x4096 .f32}
    {hl : wxM.view.LoadsAt (Rect.unit (s := S512x4096) ![0, 0] S512x4096.size inb_S512x4096_S512x4096_0_0).toLoadRect}
    {k : Vec F S512x4096 .f32 → Prog (TpuEff nD τ sig (Elt F) Λ₀ .tc) α} :
    own c wxM q X
      ⊢ iprop((own c wxM q X -∗ run c (k X) Q)
          -∗ run c (.op (.load wxM (Rect.unit (s := S512x4096) ![0, 0] S512x4096.size inb_S512x4096_S512x4096_0_0).toLoadRect hl) k) Q) := by
  unfold own owns
  iintro ⟨%f, %hf, H⟩ Hk
  have hX : wxM.view.readAt (Elt F) (Rect.unit (s := S512x4096) ![0, 0] S512x4096.size inb_S512x4096_S512x4096_0_0).toLoadRect f = X :=
    (Memref.readAt_unit_zero (Elt F) cc0_scratch0 (funext fun a => by fin_cases a <;> rfl) _ f).trans
      ((View.read_whole (Val := Elt F) cc0_scratch0 f).symm.trans hf)
  iapply (wp_load 𝒱₀ (c : Thread nD τ) none Set.univ (S := wxM.view.set) (q := q) (f := f) (by rw [View.set_whole]; exact Finset.subset_univ _)) $$ H
  iintro H
  rw [hX]
  iapply Hk
  iexists f
  isplitr; · ipureintro; exact hf
  iexact H

end Access

/-! ## Transfers and waits -/

section Transfers
variable (c : Dev nD)

/-- A wait for everything semaphore `k` is due, at a level below everything owed: it gives what comes with the units. -/
theorem wp_wait_cell {α : Type} {Q : α → sProp 𝕄} (k : Kd) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (.dma (semOf k)) n R)
    (hn : n = amt k) {O : CellTallies nD τ sig Unit} (hO : Above c (lvK k) O)
    {kt : PUnit → Prog (TpuEff nD τ sig (Elt F) Λ₀ .tc) α} :
    iprop(ctx m K ∗ crd c k ∗ debt c O ∗ pos0 c k)
      ⊢ iprop(((debt c O ∗ pos1 c k ∗ pay m c k) -∗ run c (kt ⟨⟩) Q) -∗ run c (.op w kt) Q) := by
  subst hn
  unfold debt
  iintro ⟨#Hc, Hcr, ⟨%W, HO⟩, Hat⟩ Hk
  iapply (Rounds.wp_wait_rest_token 𝒱₀ ER (rd m) (c : Thread nD τ) none (κ := K (c, .inr k)) hw (Set.mem_univ _) () (O := O) (W := W) (R := 0) (m := 0) (T := ∅)
      (by rw [Nat.zero_add, expect_cell])) $$ [Hcr HO Hat]
  · isplitr; · iapply (ctx_inv m K (c, .inr k)); iexact Hc
    isplitl [Hcr]; · iexact Hcr
    isplitl [HO]; · iexact HO
    isplitr
    · iapply (ctx_mayWait m K c k O hO); iexact Hc
    iexact Hat
  iintro ⟨HO, Hat, -, Hpay⟩
  ihave Hp := (Entails.of_eq (rest_cell m c k)) $$ Hpay
  iapply Hk
  isplitl [HO]; · iexists _; iexact HO
  isplitl [Hat]; · iexact Hat
  iexact Hp

/-- A local copy into a piece owned at any contents: it gives the units to wait with. -/
theorem wp_copy_cell {α : Type} {Q : α → sProp 𝕄} (k : Kd) {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    (hs : sm = semOf k) (hN : dst.view.dmaCredit = amt k) {q : PosShare TreeShare} (X : s.Idx → Elt F e)
    (hpay : iprop(own c dst fullShare X ∗ own c src q X) ⊢ pay m c k)
    {kt : PUnit → Prog (TpuEff nD τ sig (Elt F) Λ₀ .tc) α} :
    iprop(ctx m K ∗ own c src q X ∗ any c dst ∗ tok c k)
      ⊢ iprop((crd c k -∗ run c (kt ⟨⟩) Q) -∗ run c (.op (.enqueueDma src (.here dst) (.dma sm) hsrc hdst hsem) kt) Q) := by
  subst hs
  iintro ⟨#Hc, Hs, Hd, Ht⟩ Hk
  ihave Hd' := (any_own c _) $$ Hd
  unfold own owns
  icases Hs with ⟨%fs, %hfs, Hs⟩
  icases Hd' with ⟨%Y, %fd, -, Hd⟩
  iapply (Rounds.wp_copy_pointsTo 𝒱₀ ER (rd m) (c : Thread nD τ) none (κ := K (c, .inr k)) (r := 0) (d := false) (fs := fs) (fd := fd)
      (by rw [duties_cell]; exact Finset.mem_singleton_self _) () (amt k) (show dst.view.amount (.dma (semOf k)) = amt k from hN) (amount_cell m c k false) (by
        rw [payload_cell]
        refine BIBase.Entails.trans ?_ hpay
        unfold own owns
        iintro ⟨Hd, Hs⟩
        isplitl [Hd]
        · iexists _; isplitr
          swap
          · iexact Hd
          · ipureintro; rw [View.read_write_univ, hfs]
        · iexists _; isplitr
          swap
          · iexact Hs
          · ipureintro; exact hfs)) $$ [Hs Hd Ht]
  · isplitr; · iapply (ctx_inv m K (c, .inr k)); iexact Hc
    isplitl [Hs]; · iexact Hs
    isplitl [Hd]; · iexact Hd
    isplitl [Ht]; · iexact Ht
    iapply (ctx_reached m K (c, .inr k)); iexact Hc
  iexact Hk

/-- A send into a piece of another device's memory, owned at any contents: it pays that device's arrival and gives the
    units to wait for the departure. -/
theorem wp_send_cell {α : Type} {Q : α → sProp 𝕄} (c' n : Dev nD) (hn : n = c') (k k' : Kd) {s : Shape} {e : EltTy} {src dst : Memref sig .tc .vmem s e}
    {sm sm' : DmaSem sig} {hsc : (dst : Memref sig (Dev.tc n : Thread nD τ).2.kind .vmem s e).view.ref.isScScratch = false}
    {hsrc : src.view.WordExact} {hdst : dst.view.WordExact}
    {hsem : DmaTarget.Typed .vmem (.dma sm') (.remote (Dev.tc n : Thread nD τ) dst (.dma sm) hsc)}
    (hs : sm = semOf k) (hs' : sm' = semOf k') (hN : dst.view.dmaCredit = N) (hk : amt k = N) (hk' : amt k' = N)
    {q : PosShare TreeShare} (X : s.Idx → Elt F e)
    (hpay : own c src q X ⊢ pay m c k) (hpay' : own c' dst fullShare X ⊢ pay m c' k') {O : CellTallies nD τ sig Unit}
    {kt : PUnit → Prog (TpuEff nD τ sig (Elt F) Λ₀ .tc) α} :
    iprop(ctx m K ∗ own c src q X ∗ any c' dst ∗ debt c (tallyAt (cell c' k') () N + O) ∗ tok c k ∗ tok c' k')
      ⊢ iprop(((crd c k ∗ debt c O) -∗ run c (kt ⟨⟩) Q)
          -∗ run c (.op (.enqueueDma src (.remote (Dev.tc n : Thread nD τ) dst (.dma sm) hsc) (.dma sm') hsrc hdst hsem) kt) Q) := by
  subst hs hs' hn
  iintro ⟨#Hc, Hs, Hd, HO, Ht, Ht'⟩ Hk
  ihave Hd' := (any_own n _) $$ Hd
  unfold own owns debt
  icases Hs with ⟨%fs, %hfs, Hs⟩
  icases Hd' with ⟨%Y, %fd, -, Hd⟩
  icases HO with ⟨%W, HO⟩
  iapply (Rounds.wp_send_pointsTo 𝒱₀ ER (rd m) (c : Thread nD τ) none (κ₁ := K (c, .inr k)) (κ₂ := K (n, .inr k')) (r₁ := 0) (r₂ := 0) (d₁ := false) (d₂ := false)
      (fs := fs) (fd := fd) (q := q)
      (by rw [duties_cell]; exact Finset.mem_singleton_self _) (by rw [duties_cell]; exact Finset.mem_singleton_self _)
      () () N (show dst.view.amount (.dma (semOf k')) = N from hN) ((amount_cell m c k false).trans hk) ((amount_cell m n k' false).trans hk') O (add_comm _ _) (W := W)
      (by
        rw [payload_cell]
        refine BIBase.Entails.trans ?_ hpay
        unfold own owns
        iintro Hs
        iexists _; isplitr
        swap
        · iexact Hs
        · ipureintro; exact hfs)
      (by
        rw [payload_cell]
        refine BIBase.Entails.trans ?_ hpay'
        unfold own owns
        iintro Hd
        iexists _; isplitr
        swap
        · iexact Hd
        · ipureintro; rw [View.read_write_univ, hfs])) $$ [Hs Hd HO Ht Ht']
  · isplitr; · iapply (ctx_inv m K (c, .inr k)); iexact Hc
    isplitr; · iapply (ctx_inv m K (n, .inr k')); iexact Hc
    isplitl [Hs]; · iexact Hs
    isplitl [Hd]; · iexact Hd
    isplitl [HO]; · iexact HO
    isplitl [Ht]; · iexact Ht
    isplitr; · iapply (ctx_reached m K (c, .inr k)); iexact Hc
    isplitl [Ht']; · iexact Ht'
    iapply (ctx_reached m K (n, .inr k')); iexact Hc
  iintro ⟨Hcr, HO⟩
  iapply Hk
  isplitl [Hcr]
  · unfold crd; rw [hk]; iexact Hcr
  · iexists W; iexact HO

end Transfers

/-! ## Lists of steps -/

/-- A list of steps that each turn their own piece `A i` into `B i`, paying off the debt `o i`, beside a piece `C` they all
    use. Each step may rely on what is owed by the steps after it (`R`). -/
theorem wp_line (c : Dev nD) {I : Type} (p : I → Step F) (A B : I → sProp 𝕄) (C : sProp 𝕄) (o : I → CellTallies nD τ sig Unit)
    (R : I → List I → Prop) (O : CellTallies nD τ sig Unit)
    (step : ∀ i l (k : PUnit → Step F) (Q : PUnit → sProp 𝕄), R i l →
      iprop(ctx m K ∗ A i ∗ C ∗ debt c (o i + ((l.map o).sum + O)))
        ⊢ iprop(((B i ∗ C ∗ debt c ((l.map o).sum + O)) -∗ run c (k ⟨⟩) Q) -∗ run c (p i >>= k) Q)) :
    ∀ (l : List I) (ss : List (Step F)) (Q : PUnit → sProp 𝕄), (∀ i l', (i :: l') <:+ l → R i l') →
      iprop(ctx m K ∗ bigSepL l A ∗ C ∗ debt c ((l.map o).sum + O))
        ⊢ iprop(((bigSepL l B ∗ C ∗ debt c O) -∗ run c (line ss) Q) -∗ run c (line (l.map p ++ ss)) Q) := by
  intro l
  induction l with
  | nil =>
    intro ss Q _
    rw [List.map_nil, List.map_nil, List.nil_append, List.sum_nil, zero_add, bigSepL_nil, bigSepL_nil]
    iintro ⟨-, He, HC, HO⟩ Hk
    iapply Hk
    isplitl [He]; · iexact He
    isplitl [HC] <;> iassumption
  | cons i l ih =>
    intro ss Q hR
    rw [List.map_cons, List.map_cons, List.cons_append, List.sum_cons, bigSepL_cons', bigSepL_cons', add_assoc]
    rw [show line (p i :: (l.map p ++ ss)) = (p i >>= fun _ => line (l.map p ++ ss)) from rfl]
    iintro ⟨#Hc, ⟨Hi, Hl⟩, HC, HO⟩ Hk
    iapply (step i l (fun _ => line (l.map p ++ ss)) Q (hR i l (List.suffix_refl _))) $$ [Hi HC HO]
    · isplitr; · iexact Hc
      isplitl [Hi]; · iexact Hi
      isplitl [HC] <;> iassumption
    iintro ⟨Hi, HC, HO⟩
    iapply (ih ss Q fun i' l' h => hR i' l' (h.trans (List.suffix_cons i l))) $$ [Hl HC HO]
    · isplitr; · iexact Hc
      isplitl [Hl]; · iexact Hl
      isplitl [HC] <;> iassumption
    iintro ⟨Hl, HC, HO⟩
    iapply Hk
    isplitl [Hi Hl]
    · isplitl [Hi]; · iexact Hi
      iexact Hl
    isplitl [HC] <;> iassumption

end Cert.KernelProof

end
-- ==== Proof.Body.lean ====
/-
# The steps, run

For each kind of step what it needs and what it leaves; then the phases of the body, each a list of such steps.
-/
module

public import proofs.«01_k».proof.Proof.Rules

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## The units of each transfer -/

theorem credit_W : wxM.view.dmaCredit = amt kW := by decide +kernel
theorem credit_dy : ∀ j, (dySlot j).view.dmaCredit = amt (kDy j) := by decide +kernel
theorem credit_p : ∀ j, (tile pBuf j).view.dmaCredit = N := by decide +kernel
theorem credit_y : ∀ j, (tile yBuf j).view.dmaCredit = N := by decide +kernel
theorem credit_r : ∀ j, (tile redBuf j).view.dmaCredit = N := by decide +kernel
theorem credit_x : ∀ j, (tile xBuf j).view.dmaCredit = N := by decide +kernel
theorem credit_A : ∀ c j, (outA c j).view.dmaCredit = N := by decide +kernel
theorem credit_B : ∀ c j, (outB c j).view.dmaCredit = N := by decide +kernel
/-- Every semaphore but those of the operands' copies takes a tile's units. -/
theorem amt_tile : ∀ (a : Fin 6) (j : Fin 8), amt (.inr (a.succ, j)) = N := by decide +kernel
theorem amt_ys (j : Fin 8) : amt (kYs j) = N := amt_tile 0 j
theorem amt_yr (j : Fin 8) : amt (kYr j) = N := amt_tile 1 j
theorem amt_xs (j : Fin 8) : amt (kXs j) = N := amt_tile 2 j
theorem amt_xr (j : Fin 8) : amt (kXr j) = N := amt_tile 3 j
theorem amt_A (j : Fin 8) : amt (kA j) = N := amt_tile 4 j
theorem amt_B (j : Fin 8) : amt (kB j) = N := amt_tile 5 j

theorem shapeCasts_S128x4096_S1x128x4096 : S128x4096.ShapeCasts S1x128x4096 := by decide

theorem pay1_eq (c : Dev nD) (j : Fin 8) :
    k0_pay1 (shapeCast S1x128x4096 (dyV m c j) shapeCasts_S128x4096_S1x128x4096) (wV m c) = shapeCast S1x128x512 (pV m c j) shapeCasts_S128x512_S1x128x512 := by
  unfold k0_pay1 pV
  dsimp only
  rw [shapeCast_shapeCast]
theorem pay9_eq (c : Dev nD) (j : Fin 8) :
    k0_pay9 (shapeCast S1x128x512 (pV m c j) shapeCasts_S128x512_S1x128x512) (shapeCast S1x128x512 (pV m (yDev c) j) shapeCasts_S128x512_S1x128x512)
      = shapeCast S1x128x512 (rV m c j) shapeCasts_S128x512_S1x128x512 := by
  unfold k0_pay9 rV
  dsimp only
  rw [shapeCast_shapeCast, shapeCast_shapeCast]

section Steps
variable (c : Dev nD)

/-! ## The copies -/

def preW : sProp 𝕄 := iprop(own c (wRows c) fullShare (wV m c) ∗ any c wxM ∗ tok c kW)
def preDy (j : Fin 8) : sProp 𝕄 := iprop(own c (dyRows j) fullShare (dyV m c j) ∗ any c (dySlot j) ∗ tok c (kDy j))

theorem step_startW (k : PUnit → Step F) (Q : PUnit → sProp 𝕄) :
    iprop(ctx m K ∗ preW m c) ⊢ iprop((crd c kW -∗ run c (k ⟨⟩) Q) -∗ run c (startW c >>= k) Q) := by
  unfold startW preW
  simp only [Prog.lift, Prog.bind_op, Prog.bind_ret]
  exact wp_copy_cell m K c kW rfl credit_W (wV m c) .rfl

theorem step_startDy (j : Fin 8) (k : PUnit → Step F) (Q : PUnit → sProp 𝕄) :
    iprop(ctx m K ∗ preDy m c j) ⊢ iprop((crd c (kDy j) -∗ run c (k ⟨⟩) Q) -∗ run c (startDy j >>= k) Q) := by
  unfold startDy preDy
  simp only [Prog.lift, Prog.bind_op, Prog.bind_ret]
  exact wp_copy_cell m K c (kDy j) rfl (credit_dy j) (dyV m c j) .rfl

/-! ## The meeting of the partners -/

def preMeet : sProp 𝕄 :=
  iprop(dutyTok ER (barCell (yDev c)) 0 false ∗ dutyTok ER (barCell (xDev c)) 0 true
    ∗ (bigSep Finset.univ fun j => any c (tile yBuf j)) ∗ (bigSep Finset.univ fun j => any c (tile xBuf j))
    ∗ cred (tallyAt (barCell c) () 2) ∗ atPos ER (barCell c) 0 ∅ 0)
def postMeet : sProp 𝕄 :=
  iprop((bigSep Finset.univ fun j => any (yDev c) (tile yBuf j)) ∗ (bigSep Finset.univ fun j => any (xDev c) (tile xBuf j))
    ∗ atPos ER (barCell c) 1 ∅ 0)

theorem above_oweAll : Above c 1 (oweAll c) := by
  refine above_add ?_ ?_ <;> rw [← List.sum_ofFn, ← List.map_id (List.ofFn _)] <;>
    refine above_sum _ _ fun i hi => ?_ <;> obtain ⟨j, rfl⟩ := List.mem_ofFn.mp hi
  · exact above_tally (k := kYr j) (by show 1 < 2; decide)
  · exact above_tally (k := kXr j) (by show 1 < 3 + j.val; omega)

theorem step_meet (k : PUnit → Step F) (Q : PUnit → sProp 𝕄) :
    iprop(ctx m K ∗ preMeet c ∗ debt c (oweStart c))
      ⊢ iprop(((postMeet c ∗ debt c (oweAll c)) -∗ run c (k ⟨⟩) Q) -∗ run c (meet c >>= k) Q) := by
  unfold meet
  simp only [semSignalWord, semWaitWord, Prog.lift, Prog.bind_op, Prog.bind_ret, Prog.pure_eq_ret]
  unfold preMeet debt oweStart
  iintro ⟨#Hc, ⟨HtY, HtX, HyB, HxB, Hcr, Hat⟩, ⟨%W, HO⟩⟩ Hk
  iapply (Rounds.wp_signal 𝒱₀ ER (rd m) (c : Thread nD τ) none (dst := (yDev c : Thread nD τ)) (κ := K (yDev c, .inl ()))
      (d := false) (by rw [duties_bar]; exact Finset.mem_univ _) ((amount_bar m (yDev c) false).trans (by decide)) () _ rfl)
    $$ [HO HtY HyB]
  · isplitr; · iapply (ctx_inv m K (yDev c, .inl ())); iexact Hc
    isplitl [HO]; · iexact HO
    isplitl [HtY]; · iexact HtY
    isplitl [HyB]; · rw [payload_bar]; unfold barPay; rw [yDev_yDev]; iexact HyB
    iapply (ctx_reached m K (yDev c, .inl ())); iexact Hc
  iintro HO
  iapply (Rounds.wp_signal 𝒱₀ ER (rd m) (c : Thread nD τ) none (dst := (xDev c : Thread nD τ)) (κ := K (xDev c, .inl ()))
      (d := true) (by rw [duties_bar]; exact Finset.mem_univ _) ((amount_bar m (xDev c) true).trans (by decide)) () (oweAll c) rfl)
    $$ [HO HtX HxB]
  · isplitr; · iapply (ctx_inv m K (xDev c, .inl ())); iexact Hc
    isplitl [HO]; · iexact HO
    isplitl [HtX]; · iexact HtX
    isplitl [HxB]; · rw [payload_bar]; unfold barPay; rw [xDev_xDev]; iexact HxB
    iapply (ctx_reached m K (xDev c, .inl ())); iexact Hc
  iintro HO
  iapply (Rounds.wp_wait_rest_token 𝒱₀ ER (rd m) (c : Thread nD τ) none (κ := K (c, .inl ()))
      (wpE_semWait_eq 𝒱₀ (c : Thread nD τ) none Set.univ) (Set.mem_univ _) () (O := oweAll c) (W := W) (R := 0) (m := 0) (T := ∅)
      (by rw [expect_bar]; decide)) $$ [Hcr HO Hat]
  · isplitr; · iapply (ctx_inv m K (c, .inl ())); iexact Hc
    isplitl [Hcr]; · iexact Hcr
    isplitl [HO]; · iexact HO
    isplitr; · iapply (ctx_mayWait_bar m K c _ (above_oweAll c)); iexact Hc
    iexact Hat
  iintro ⟨HO, Hat, -, Hpay⟩
  ihave Hp := (Entails.of_eq (rest_bar m c)) $$ Hpay
  icases Hp with ⟨Hy, Hx⟩
  iapply Hk
  unfold postMeet
  isplitr [HO]
  · isplitl [Hy]; · unfold barPay; iexact Hy
    isplitl [Hx]; · unfold barPay; iexact Hx
    iexact Hat
  iexists _; iexact HO

/-! ## The wait for `W` -/

theorem step_waitW {O : CellTallies nD τ sig Unit} (hO : Above c 0 O) (k : PUnit → Step F) (Q : PUnit → sProp 𝕄) :
    iprop(ctx m K ∗ crd c kW ∗ debt c O ∗ pos0 c kW)
      ⊢ iprop(((debt c O ∗ pos1 c kW ∗ pay m c kW) -∗ run c (k ⟨⟩) Q) -∗ run c (waitW c >>= k) Q) := by
  unfold waitW
  simp only [Prog.lift, Prog.bind_op, Prog.bind_ret]
  exact wp_wait_cell m K c kW (wpE_waitDma2_eq 𝒱₀ (c : Thread nD τ) none Set.univ) credit_W hO

/-! ## A partial product, sent -/

def preA (j : Fin 8) : sProp 𝕄 :=
  iprop(crd c (kDy j) ∗ pos0 c (kDy j) ∗ any c (tile pBuf j) ∗ any (yDev c) (tile yBuf j) ∗ tok c (kYs j) ∗ tok (yDev c) (kYr j))
def postA (j : Fin 8) : sProp 𝕄 :=
  iprop(pos1 c (kDy j) ∗ own c (dySlot j) fullShare (dyV m c j) ∗ own c (dyRows j) fullShare (dyV m c j) ∗ own c (tile pBuf j) lh (pV m c j) ∗ crd c (kYs j))

theorem step_A (j : Fin 8) {O : CellTallies nD τ sig Unit} (hO : Above c 0 O) (k : PUnit → Step F) (Q : PUnit → sProp 𝕄) :
    iprop(ctx m K ∗ preA c j ∗ own c wxM fullShare (wV m c) ∗ debt c (oweY c j + O))
      ⊢ iprop(((postA m c j ∗ own c wxM fullShare (wV m c) ∗ debt c O) -∗ run c (k ⟨⟩) Q) -∗ run c (stepA c j >>= k) Q) := by
  unfold stepA
  simp only [Prog.lift, Prog.bind_op, Prog.bind_ret]
  unfold preA
  iintro ⟨#Hc, ⟨Hcr, Hat, Hp, Hy, Hts, Htr⟩, HW, HO⟩ Hk
  iapply (wp_wait_cell m K c (kDy j) (wpE_waitDma2_eq 𝒱₀ (c : Thread nD τ) none Set.univ) (credit_dy j)
    (above_add (above_tally (k := kYr j) (by show 0 < 2; decide)) hO)) $$ [Hcr HO Hat]
  · isplitr; · iexact Hc
    isplitl [Hcr]; · iexact Hcr
    isplitl [HO]; · iexact HO
    iexact Hat
  iintro ⟨HO, Hat, Hpay⟩
  unfold pay
  icases Hpay with ⟨Hslot, Hrows⟩
  iapply (wp_load_slot c dyBuf (rD j) (fun _ => rfl) squeezes_S1x128x4096_S128x4096 shapeCasts_S1x128x4096_S128x4096 shapeCasts_S128x4096_S1x128x4096) $$ Hslot
  iintro Hslot
  iapply (wp_load_W c) $$ HW
  iintro HW
  iapply (wp_load_skip c pBuf (rT j) (fun _ => rfl) squeezes_S1x128x512_S128x512 shapeCasts_S1x128x512_S128x512 shapeCasts_S128x512_S1x128x512) $$ Hp
  iintro Hp
  iapply (wp_store_slot c pBuf (rT j) (fun _ => rfl) squeezes_S1x128x512_S128x512 shapeCasts_S1x128x512_S128x512 shapeCasts_S128x512_S1x128x512 (pV m c j) _ (pay1_eq m c j)) $$ Hp
  iintro Hp
  ihave Hp' := (owns_halves (c : Thread nD τ) _ _ _).1 $$ Hp
  icases Hp' with ⟨Hpl, Hpr⟩
  iapply (wp_send_cell m K c (yDev c) (yDev c) rfl (kYs j) (kYr j) rfl rfl (credit_y j) (amt_ys j) (amt_yr j) (pV m c j) .rfl
      (by unfold pay; dsimp only; rw [yDev_yDev])) $$ [Hpr Hy HO Hts Htr]
  · isplitr; · iexact Hc
    isplitl [Hpr]; · iexact Hpr
    isplitl [Hy]; · iexact Hy
    isplitl [HO]; · iexact HO
    isplitl [Hts] <;> iassumption
  iintro ⟨Hcs, HO⟩
  iapply Hk
  unfold postA
  isplitr [HW HO]
  · isplitl [Hat]; · iexact Hat
    isplitl [Hslot]; · iexact Hslot
    isplitl [Hrows]; · iexact Hrows
    isplitl [Hpl] <;> iassumption
  isplitl [HW] <;> iassumption

/-! ## A reduction, sent and copied out -/

def preB (j : Fin 8) : sProp 𝕄 :=
  iprop(crd c (kYr j) ∗ pos0 c (kYr j) ∗ own c (tile pBuf j) lh (pV m c j) ∗ any c (tile redBuf j) ∗ any (xDev c) (tile xBuf j)
    ∗ tok c (kXs j) ∗ tok (xDev c) (kXr j) ∗ tok c (kA j) ∗ any c (outA c j))
def postB (j : Fin 8) : sProp 𝕄 :=
  iprop(pos1 c (kYr j) ∗ own c (tile pBuf j) lh (pV m c j) ∗ own c (tile yBuf j) fullShare (pV m (yDev c) j) ∗ crd c (kXs j) ∗ crd c (kA j))

theorem step_B (j : Fin 8) {O : CellTallies nD τ sig Unit} (hO : Above c 2 O) (k : PUnit → Step F) (Q : PUnit → sProp 𝕄) :
    iprop(ctx m K ∗ preB m c j ∗ debt c (oweX c j + O))
      ⊢ iprop(((postB m c j ∗ debt c O) -∗ run c (k ⟨⟩) Q) -∗ run c (stepB c j >>= k) Q) := by
  unfold stepB
  simp only [Prog.lift, Prog.bind_op, Prog.bind_ret]
  unfold preB
  iintro ⟨#Hc, ⟨Hcr, Hat, Hp, Hr, Hx, Hts, Htr, Hta, Ho⟩, HO⟩ Hk
  iapply (wp_wait_cell m K c (kYr j) (wpE_waitDma2_eq 𝒱₀ (c : Thread nD τ) none Set.univ) ((credit_y j).trans (amt_yr j).symm)
    (above_add (above_tally (k := kXr j) (by show 2 < 3 + j.val; omega)) hO)) $$ [Hcr HO Hat]
  · isplitr; · iexact Hc
    isplitl [Hcr]; · iexact Hcr
    isplitl [HO]; · iexact HO
    iexact Hat
  iintro ⟨HO, Hat, Hy⟩
  unfold pay
  iapply (wp_load_slot c pBuf (rT j) (fun _ => rfl) squeezes_S1x128x512_S128x512 shapeCasts_S1x128x512_S128x512 shapeCasts_S128x512_S1x128x512) $$ Hp
  iintro Hp
  iapply (wp_load_slot c yBuf (rT j) (fun _ => rfl) squeezes_S1x128x512_S128x512 shapeCasts_S1x128x512_S128x512 shapeCasts_S128x512_S1x128x512) $$ Hy
  iintro Hy
  iapply (wp_load_skip c redBuf (rT j) (fun _ => rfl) squeezes_S1x128x512_S128x512 shapeCasts_S1x128x512_S128x512 shapeCasts_S128x512_S1x128x512) $$ Hr
  iintro Hr
  iapply (wp_store_slot c redBuf (rT j) (fun _ => rfl) squeezes_S1x128x512_S128x512 shapeCasts_S1x128x512_S128x512 shapeCasts_S128x512_S1x128x512 (rV m c j) _ (pay9_eq m c j)) $$ Hr
  iintro Hr
  ihave Hr' := (owns_halves (c : Thread nD τ) _ _ _).1 $$ Hr
  icases Hr' with ⟨Hrl, Hrr⟩
  iapply (wp_send_cell m K c (xDev c) (xDev c) rfl (kXs j) (kXr j) rfl rfl (credit_x j) (amt_xs j) (amt_xr j) (rV m c j) .rfl
      (by unfold pay; dsimp only; rw [xDev_xDev])) $$ [Hrr Hx HO Hts Htr]
  · isplitr; · iexact Hc
    isplitl [Hrr]; · iexact Hrr
    isplitl [Hx]; · iexact Hx
    isplitl [HO]; · iexact HO
    isplitl [Hts] <;> iassumption
  iintro ⟨Hcs, HO⟩
  iapply (wp_copy_cell m K c (kA j) rfl ((credit_A c j).trans (amt_A j).symm) (rV m c j) .rfl) $$ [Hrl Ho Hta]
  · isplitr; · iexact Hc
    isplitl [Hrl]; · iexact Hrl
    isplitl [Ho] <;> iassumption
  iintro Hca
  iapply Hk
  unfold postB
  isplitr [HO]
  · isplitl [Hat]; · iexact Hat
    isplitl [Hp]; · iexact Hp
    isplitl [Hy]; · iexact Hy
    isplitl [Hcs] <;> iassumption
  iexact HO

/-! ## A chunk of the other half, received and copied out -/

def preD (j : Fin 8) : sProp 𝕄 := iprop(crd c (kXr j) ∗ pos0 c (kXr j) ∗ tok c (kB j) ∗ any c (outB c j))
def postD (j : Fin 8) : sProp 𝕄 := iprop(pos1 c (kXr j) ∗ crd c (kB j))

theorem step_D (j : Fin 8) {O : CellTallies nD τ sig Unit} (hO : Above c (3 + j.val) O) (k : PUnit → Step F) (Q : PUnit → sProp 𝕄) :
    iprop(ctx m K ∗ preD c j ∗ debt c O)
      ⊢ iprop(((postD c j ∗ debt c O) -∗ run c (k ⟨⟩) Q) -∗ run c (stepD c j >>= k) Q) := by
  unfold stepD
  simp only [Prog.lift, Prog.bind_op, Prog.bind_ret]
  unfold preD
  iintro ⟨#Hc, ⟨Hcr, Hat, Ht, Ho⟩, HO⟩ Hk
  iapply (wp_wait_cell m K c (kXr j) (wpE_waitDma2_eq 𝒱₀ (c : Thread nD τ) none Set.univ) ((credit_x j).trans (amt_xr j).symm) hO) $$ [Hcr HO Hat]
  · isplitr; · iexact Hc
    isplitl [Hcr]; · iexact Hcr
    isplitl [HO]; · iexact HO
    iexact Hat
  iintro ⟨HO, Hat, Hx⟩
  unfold pay
  iapply (wp_copy_cell m K c (kB j) rfl ((credit_B c j).trans (amt_B j).symm) (rV m (xDev c) j) .rfl) $$ [Hx Ho Ht]
  · isplitr; · iexact Hc
    isplitl [Hx]; · iexact Hx
    isplitl [Ho] <;> iassumption
  iintro Hcb
  iapply Hk
  unfold postD
  isplitr [HO]
  · isplitl [Hat] <;> iassumption
  iexact HO

/-! ## The closing waits -/

def preS (j : Fin 8) : sProp 𝕄 := iprop(crd c (kYs j) ∗ pos0 c (kYs j) ∗ crd c (kXs j) ∗ pos0 c (kXs j))
def postS (j : Fin 8) : sProp 𝕄 :=
  iprop(pos1 c (kYs j) ∗ pos1 c (kXs j) ∗ own c (tile pBuf j) rh (pV m c j) ∗ own c (tile redBuf j) rh (rV m c j))

theorem step_S (j : Fin 8) (k : PUnit → Step F) (Q : PUnit → sProp 𝕄) :
    iprop(ctx m K ∗ preS c j ∗ debt c 0)
      ⊢ iprop(((postS m c j ∗ debt c 0) -∗ run c (k ⟨⟩) Q) -∗ run c (waitSent j >>= k) Q) := by
  unfold waitSent
  simp only [Prog.lift, Prog.bind_op, Prog.bind_ret]
  unfold preS
  iintro ⟨#Hc, ⟨Hcy, Hay, Hcx, Hax⟩, HO⟩ Hk
  iapply (wp_wait_cell m K c (kYs j) (wpE_waitDma2_eq 𝒱₀ (c : Thread nD τ) none Set.univ) ((credit_p j).trans (amt_ys j).symm) (above_zero _ _)) $$ [Hcy HO Hay]
  · isplitr; · iexact Hc
    isplitl [Hcy]; · iexact Hcy
    isplitl [HO]; · iexact HO
    iexact Hay
  iintro ⟨HO, Hay, Hp⟩
  iapply (wp_wait_cell m K c (kXs j) (wpE_waitDma2_eq 𝒱₀ (c : Thread nD τ) none Set.univ) ((credit_r j).trans (amt_xs j).symm) (above_zero _ _)) $$ [Hcx HO Hax]
  · isplitr; · iexact Hc
    isplitl [Hcx]; · iexact Hcx
    isplitl [HO]; · iexact HO
    iexact Hax
  iintro ⟨HO, Hax, Hr⟩
  unfold pay
  iapply Hk
  unfold postS
  isplitr [HO]
  · isplitl [Hay]; · iexact Hay
    isplitl [Hax]; · iexact Hax
    isplitl [Hp] <;> iassumption
  iexact HO

theorem step_waitA (j : Fin 8) (k : PUnit → Step F) (Q : PUnit → sProp 𝕄) :
    iprop(ctx m K ∗ crd c (kA j) ∗ debt c 0 ∗ pos0 c (kA j))
      ⊢ iprop(((debt c 0 ∗ pos1 c (kA j) ∗ pay m c (kA j)) -∗ run c (k ⟨⟩) Q) -∗ run c (waitA c j >>= k) Q) := by
  unfold waitA
  simp only [Prog.lift, Prog.bind_op, Prog.bind_ret]
  exact wp_wait_cell m K c (kA j) (wpE_waitDma2_eq 𝒱₀ (c : Thread nD τ) none Set.univ) ((credit_A c j).trans (amt_A j).symm) (above_zero _ _)

theorem step_waitB (j : Fin 8) (k : PUnit → Step F) (Q : PUnit → sProp 𝕄) :
    iprop(ctx m K ∗ crd c (kB j) ∗ debt c 0 ∗ pos0 c (kB j))
      ⊢ iprop(((debt c 0 ∗ pos1 c (kB j) ∗ pay m c (kB j)) -∗ run c (k ⟨⟩) Q) -∗ run c (waitB c j >>= k) Q) := by
  unfold waitB
  simp only [Prog.lift, Prog.bind_op, Prog.bind_ret]
  exact wp_wait_cell m K c (kB j) (wpE_waitDma2_eq 𝒱₀ (c : Thread nD τ) none Set.univ) ((credit_B c j).trans (amt_B j).symm) (above_zero _ _)

end Steps

end Cert.KernelProof

end
-- ==== Proof.Run.lean ====
/-
# The whole body

The phases of the body one after another, on any device: from what the device holds when the body starts to what it
holds when the body ends.
-/
module

public import proofs.«01_k».proof.Proof.Body

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## One piece per chunk -/

/-- A piece per chunk. -/
abbrev each (Φ : Fin 8 → sProp 𝕄) : sProp 𝕄 := bigSep Finset.univ Φ

/-- The chunks in order. -/
abbrev js : List (Fin 8) := [0, 1, 2, 3, 4, 5, 6, 7]
/-- The order of the laced phases: `(false, j)` the first kind of step, `(true, j)` the second. -/
abbrev evs : List (Bool × Fin 8) :=
  [(false, 0), (false, 1), (false, 2), (true, 0), (false, 3), (true, 1), (false, 4), (true, 2),
   (false, 5), (true, 3), (false, 6), (true, 4), (false, 7), (true, 5), (true, 6), (true, 7)]

omit [FloatOps F] in
theorem each_js (Φ : Fin 8 → sProp 𝕄) : each Φ = bigSepL js Φ := bigSep_univ_eq_bigSepL js (by decide) (by decide) Φ

omit [FloatOps F] in
theorem evs_each (B D : Fin 8 → sProp 𝕄) :
    bigSepL evs (fun e => if e.1 then D e.2 else B e.2) = iprop(each B ∗ each D) := by
  rw [each_js, each_js, ← bigSep_eq_bigSepL_of_eq (S := Finset.univ) evs (by decide) (by decide),
    bigSep_univ_eq_bigSepL (js.map (fun j => (false, j)) ++ js.map (fun j => (true, j))) (by decide) (by decide), bigSepL_append,
    bigSepL_map, bigSepL_map]
  rfl

omit [FloatOps F] in
/-- Two pieces per chunk put together. -/
theorem each_join {Φ Ψ Θ : Fin 8 → sProp 𝕄} (h : ∀ j, iprop(Φ j ∗ Ψ j) ⊢ Θ j) : iprop(each Φ ∗ each Ψ) ⊢ each Θ :=
  (Entails.of_eq (bigSep_sep' _ _ _).symm).trans (bigSep_mono fun j _ => h j)
omit [FloatOps F] in
/-- A piece per chunk taken apart. -/
theorem each_split {Φ Ψ Θ : Fin 8 → sProp 𝕄} (h : ∀ j, Θ j ⊢ iprop(Φ j ∗ Ψ j)) : each Θ ⊢ iprop(each Φ ∗ each Ψ) :=
  BIBase.Entails.trans (bigSep_mono fun j _ => h j) (Entails.of_eq (bigSep_sep' _ _ _))

/-! ## Phases -/

/-- A phase of one step per chunk. -/
theorem wp_chunks (p : Fin 8 → Step F) (A B : Fin 8 → sProp 𝕄) (C : sProp 𝕄) (o : Fin 8 → CellTallies nD τ sig Unit) (O : CellTallies nD τ sig Unit)
    (step : ∀ j (l : List (Fin 8)) (k : PUnit → Step F) (Q : PUnit → sProp 𝕄),
      iprop(ctx m K ∗ A j ∗ C ∗ debt c (o j + ((l.map o).sum + O)))
        ⊢ iprop(((B j ∗ C ∗ debt c ((l.map o).sum + O)) -∗ run c (k ⟨⟩) Q) -∗ run c (p j >>= k) Q))
    (ss : List (Step F)) (Q : PUnit → sProp 𝕄) :
    iprop(ctx m K ∗ each A ∗ C ∗ debt c ((∑ j, o j) + O))
      ⊢ iprop(((each B ∗ C ∗ debt c O) -∗ run c (line ss) Q) -∗ run c (line (chunks p ++ ss)) Q) := by
  rw [each_js, each_js, show (∑ j, o j) = (js.map o).sum from by rw [← List.sum_ofFn]; rfl]
  exact wp_line m K c p A B C o (fun _ _ => True) O (fun j l k Q _ => step j l k Q) js ss Q fun _ _ _ => trivial

/-- A phase of one step per chunk, none of which pays a debt. -/
theorem wp_chunks0 (p : Fin 8 → Step F) (A B : Fin 8 → sProp 𝕄) (O : CellTallies nD τ sig Unit)
    (step : ∀ j (k : PUnit → Step F) (Q : PUnit → sProp 𝕄),
      iprop(ctx m K ∗ A j ∗ debt c O) ⊢ iprop(((B j ∗ debt c O) -∗ run c (k ⟨⟩) Q) -∗ run c (p j >>= k) Q))
    (ss : List (Step F)) (Q : PUnit → sProp 𝕄) :
    iprop(ctx m K ∗ each A ∗ debt c O)
      ⊢ iprop(((each B ∗ debt c O) -∗ run c (line ss) Q) -∗ run c (line (chunks p ++ ss)) Q) := by
  have h := wp_chunks m K c p A B iprop(emp) (fun _ => 0) O (fun j l k Q => by
    rw [show (l.map fun _ => (0 : CellTallies nD τ sig Unit)).sum = 0 by simp, zero_add, zero_add]
    iintro ⟨#Hc, HA, -, HO⟩ Hk
    iapply (step j k Q) $$ [HA HO]
    · isplitr; · iexact Hc
      isplitl [HA] <;> iassumption
    iintro ⟨HB, HO⟩
    iapply Hk
    isplitl [HB]; · iexact HB
    isplitr; · iempintro
    iexact HO) ss Q
  rw [show (∑ _j : Fin 8, (0 : CellTallies nD τ sig Unit)) = 0 by simp, zero_add] at h
  iintro ⟨#Hc, HA, HO⟩ Hk
  iapply h $$ [HA HO]
  · isplitr; · iexact Hc
    isplitl [HA]; · iexact HA
    isplitr; · iempintro
    iexact HO
  iintro ⟨HB, -, HO⟩
  iapply Hk
  isplitl [HB] <;> iassumption

/-- A drain comes before only the reductions of later chunks. -/
def InOrder (e : Bool × Fin 8) (l : List (Bool × Fin 8)) : Prop := e.1 = true → ∀ e' ∈ l, e'.1 = false → e.2 < e'.2
instance (e : Bool × Fin 8) (l : List (Bool × Fin 8)) : Decidable (InOrder e l) := by unfold InOrder; infer_instance
theorem inOrder (e : Bool × Fin 8) (l : List (Bool × Fin 8)) (h : (e :: l) <:+ evs) : InOrder e l := by
  have hall : ∀ t ∈ evs.tails, ∀ e ∈ t.head?, InOrder e t.tail := by decide +kernel
  exact hall (e :: l) (List.mem_tails _ _ |>.mpr h) e rfl

/-- What the step `e` of the laced phase pays off. -/
def pays (e : Bool × Fin 8) : CellTallies nD τ sig Unit := if e.1 then 0 else oweX c e.2

theorem above_pays {n : ℕ} (l : List (Bool × Fin 8)) (h : ∀ e ∈ l, e.1 = false → n < 3 + e.2.val) : Above c n ((l.map (pays c)).sum + 0) := by
  rw [add_zero]
  refine above_sum l _ fun e he => ?_
  unfold pays
  split_ifs with h1
  · exact above_zero c n
  · exact above_tally (k := kXr e.2) (h e he (by simpa using h1))

theorem pays_sum : (evs.map (pays c)).sum = ∑ j, oweX c j := by
  rw [Fin.sum_univ_eight]
  simp only [List.map_cons, List.map_nil, List.sum_cons, List.sum_nil, pays, if_true, Bool.false_eq_true, if_false, zero_add, add_zero, ← add_assoc]

/-- The reductions and drains. -/
theorem wp_laced (ss : List (Step F)) (Q : PUnit → sProp 𝕄) :
    iprop(ctx m K ∗ each (preB m c) ∗ each (preD c) ∗ debt c (∑ j, oweX c j))
      ⊢ iprop(((each (postB m c) ∗ each (postD c) ∗ debt c 0) -∗ run c (line ss) Q)
          -∗ run c (line (laced (stepB c) (stepD c) ++ ss)) Q) := by
  have h := wp_line m K c (fun e : Bool × Fin 8 => if e.1 then stepD c e.2 else stepB c e.2)
    (fun e => if e.1 then preD c e.2 else preB m c e.2) (fun e => if e.1 then postD c e.2 else postB m c e.2) iprop(emp) (pays c) InOrder 0 ?_
    evs ss Q inOrder
  · rw [evs_each, evs_each, pays_sum, add_zero] at h
    iintro ⟨#Hc, HB, HD, HO⟩ Hk
    iapply h $$ [HB HD HO]
    · isplitr; · iexact Hc
      isplitl [HB HD]; · isplitl [HB] <;> iassumption
      isplitr; · iempintro
      iexact HO
    iintro ⟨⟨HB, HD⟩, -, HO⟩
    iapply Hk
    isplitl [HB]; · iexact HB
    isplitl [HD] <;> iassumption
  · rintro ⟨b, j⟩ l k Q hR
    cases b
    · simp only [Bool.false_eq_true, if_false, pays]
      iintro ⟨#Hc, HB, -, HO⟩ Hk
      iapply (step_B m K c j (above_pays c l fun e _ _ => by omega) k Q) $$ [HB HO]
      · isplitr; · iexact Hc
        isplitl [HB] <;> iassumption
      iintro ⟨HB, HO⟩
      iapply Hk
      isplitl [HB]; · iexact HB
      isplitr; · iempintro
      iexact HO
    · rw [show pays c (true, j) = 0 from rfl, zero_add]
      simp only [if_true]
      iintro ⟨#Hc, HB, -, HO⟩ Hk
      iapply (step_D m K c j (above_pays c l fun e he hb => by have := hR rfl e he hb; simp only [Fin.lt_def] at this; omega) k Q) $$ [HB HO]
      · isplitr; · iexact Hc
        isplitl [HB] <;> iassumption
      iintro ⟨HB, HO⟩
      iapply Hk
      isplitl [HB]; · iexact HB
      isplitr; · iempintro
      iexact HO

/-- The closing waits for the copies to the result. -/
theorem wp_out (Q : PUnit → sProp 𝕄) :
    iprop(ctx m K ∗ (each fun j => iprop(crd c (kA j) ∗ pos0 c (kA j))) ∗ (each fun j => iprop(crd c (kB j) ∗ pos0 c (kB j))) ∗ debt c 0)
      ⊢ iprop((((each fun j => iprop(pos1 c (kA j) ∗ pay m c (kA j))) ∗ (each fun j => iprop(pos1 c (kB j) ∗ pay m c (kB j))) ∗ debt c 0) -∗ Q ⟨⟩)
          -∗ run c (line (laced (waitA c) (waitB c))) Q) := by
  have h := wp_line m K c (fun e : Bool × Fin 8 => if e.1 then waitB c e.2 else waitA c e.2)
    (fun e => if e.1 then iprop(crd c (kB e.2) ∗ pos0 c (kB e.2)) else iprop(crd c (kA e.2) ∗ pos0 c (kA e.2)))
    (fun e => if e.1 then iprop(pos1 c (kB e.2) ∗ pay m c (kB e.2)) else iprop(pos1 c (kA e.2) ∗ pay m c (kA e.2)))
    iprop(emp) (fun _ => 0) (fun _ _ => True) 0 ?_ evs [] Q fun _ _ _ => trivial
  · rw [evs_each (F := F) (fun j => iprop(crd c (kA j) ∗ pos0 c (kA j))) (fun j => iprop(crd c (kB j) ∗ pos0 c (kB j))),
      evs_each (F := F) (fun j => iprop(pos1 c (kA j) ∗ pay m c (kA j))) (fun j => iprop(pos1 c (kB j) ∗ pay m c (kB j))),
      show (evs.map fun _ => (0 : CellTallies nD τ sig Unit)).sum = 0 by simp, add_zero, List.append_nil] at h
    iintro ⟨#Hc, HA, HB, HO⟩ Hk
    iapply h $$ [HA HB HO]
    · isplitr; · iexact Hc
      isplitl [HA HB]; · isplitl [HA] <;> iassumption
      isplitr; · iempintro
      iexact HO
    iintro ⟨⟨HA, HB⟩, -, HO⟩
    rw [show (line [] : Step F) = .ret ⟨⟩ from rfl]
    unfold run
    rw [wp_ret]
    imodintro
    iapply Hk
    isplitl [HA]; · iexact HA
    isplitl [HB] <;> iassumption
  · rintro ⟨b, j⟩ l k Q -
    rw [show (l.map fun _ => (0 : CellTallies nD τ sig Unit)).sum = 0 by simp, zero_add, zero_add]
    cases b
    · simp only [Bool.false_eq_true, if_false]
      iintro ⟨#Hc, ⟨Hcr, Hat⟩, -, HO⟩ Hk
      iapply (step_waitA m K c j k Q) $$ [Hcr Hat HO]
      · isplitr; · iexact Hc
        isplitl [Hcr]; · iexact Hcr
        isplitl [HO] <;> iassumption
      iintro ⟨HO, Hat, Hp⟩
      iapply Hk
      isplitr [HO]; · isplitl [Hat] <;> iassumption
      isplitr; · iempintro
      iexact HO
    · simp only [if_true]
      iintro ⟨#Hc, ⟨Hcr, Hat⟩, -, HO⟩ Hk
      iapply (step_waitB m K c j k Q) $$ [Hcr Hat HO]
      · isplitr; · iexact Hc
        isplitl [Hcr]; · iexact Hcr
        isplitl [HO] <;> iassumption
      iintro ⟨HO, Hat, Hp⟩
      iapply Hk
      isplitr [HO]; · isplitl [Hat] <;> iassumption
      isplitr; · iempintro
      iexact HO

/-! ## From start to end -/

/-- A copy of chunk `j` of `dy`: what its wait needs, and the tiles and tokens of the step after it. -/
def holdA (j : Fin 8) : sProp 𝕄 := iprop(pos0 c (kDy j) ∗ any c (tile pBuf j) ∗ tok c (kYs j) ∗ tok (yDev c) (kYr j))
/-- What chunk `j`'s reduction needs beside the partial product and the x partner's tile. -/
def holdB (j : Fin 8) : sProp 𝕄 :=
  iprop(crd c (kYr j) ∗ pos0 c (kYr j) ∗ any c (tile redBuf j) ∗ tok c (kXs j) ∗ tok (xDev c) (kXr j) ∗ tok c (kA j) ∗ any c (outA c j))
/-- Where chunk `j`'s closing waits stand. -/
def holdS (j : Fin 8) : sProp 𝕄 := iprop(pos0 c (kYs j) ∗ pos0 c (kXs j) ∗ pos0 c (kA j) ∗ pos0 c (kB j))

/-- What device `c` holds when the body starts. -/
def begin : sProp 𝕄 :=
  iprop(preMeet c ∗ preW m c ∗ pos0 c kW ∗ each (preDy m c) ∗ each (holdA c) ∗ each (holdB c) ∗ each (preD c) ∗ each (holdS c) ∗ debt c (oweStart c))

/-- What chunk `j` leaves: its semaphores a round further, and its tiles. -/
def leaves (j : Fin 8) : sProp 𝕄 :=
  iprop((pos1 c (kDy j) ∗ pos1 c (kYs j) ∗ pos1 c (kYr j) ∗ pos1 c (kXs j) ∗ pos1 c (kXr j) ∗ pos1 c (kA j) ∗ pos1 c (kB j))
    ∗ own c (dyRows j) fullShare (dyV m c j) ∗ own c (outA c j) fullShare (rV m c j) ∗ own c (outB c j) fullShare (rV m (xDev c) j)
    ∗ own c (dySlot j) fullShare (dyV m c j) ∗ own c (tile pBuf j) fullShare (pV m c j) ∗ own c (tile yBuf j) fullShare (pV m (yDev c) j)
    ∗ own c (tile redBuf j) fullShare (rV m c j) ∗ own c (tile xBuf j) fullShare (rV m (xDev c) j))

/-- What device `c` holds when the body ends. -/
def finish : sProp 𝕄 :=
  iprop((atPos ER (barCell c) 1 ∅ 0 ∗ pos1 c kW) ∗ (own c (wRows c) fullShare (wV m c) ∗ own c wxM fullShare (wV m c)) ∗ each (leaves m c) ∗ debt c 0)

/-- What chunk `j`'s partial product leaves beside what its reduction needs. -/
def keepA (j : Fin 8) : sProp 𝕄 :=
  iprop(pos1 c (kDy j) ∗ own c (dySlot j) fullShare (dyV m c j) ∗ own c (dyRows j) fullShare (dyV m c j) ∗ crd c (kYs j))
/-- What chunk `j` has left once reduced. -/
def keepB (j : Fin 8) : sProp 𝕄 :=
  iprop(keepA m c j ∗ postB m c j)
/-- What chunk `j` has left before its closing waits. -/
def keepC (j : Fin 8) : sProp 𝕄 :=
  iprop((pos1 c (kDy j) ∗ own c (dySlot j) fullShare (dyV m c j) ∗ own c (dyRows j) fullShare (dyV m c j))
    ∗ (pos1 c (kYr j) ∗ own c (tile pBuf j) lh (pV m c j) ∗ own c (tile yBuf j) fullShare (pV m (yDev c) j)) ∗ pos1 c (kXr j)
    ∗ (crd c (kA j) ∗ pos0 c (kA j)) ∗ crd c (kB j) ∗ pos0 c (kB j))
def keepD (j : Fin 8) : sProp 𝕄 :=
  iprop((pos1 c (kDy j) ∗ own c (dySlot j) fullShare (dyV m c j) ∗ own c (dyRows j) fullShare (dyV m c j))
    ∗ (pos1 c (kYr j) ∗ own c (tile pBuf j) lh (pV m c j) ∗ own c (tile yBuf j) fullShare (pV m (yDev c) j)) ∗ pos1 c (kXr j) ∗ postS m c j)

omit [FloatOps F] in
theorem joinA0 (j : Fin 8) : iprop(crd c (kDy j) ∗ (holdA c j ∗ any (F := F) (yDev c) (tile yBuf j))) ⊢ preA c j := by
  unfold holdA preA
  iintro ⟨Hcr, ⟨Hat, Hp, Ht, Ht'⟩, Hy⟩
  isplitl [Hcr]; · iexact Hcr
  isplitl [Hat]; · iexact Hat
  isplitl [Hp]; · iexact Hp
  isplitl [Hy]; · iexact Hy
  isplitl [Ht] <;> iassumption

theorem splitA (j : Fin 8) : postA m c j ⊢ iprop(keepA m c j ∗ own c (tile pBuf j) lh (pV m c j)) := by
  unfold postA keepA
  iintro ⟨Ha, Hs, Hr, Hp, Hc⟩
  isplitr [Hp]
  · isplitl [Ha]; · iexact Ha
    isplitl [Hs]; · iexact Hs
    isplitl [Hr] <;> iassumption
  iexact Hp

theorem joinB (j : Fin 8) : iprop(own c (tile pBuf j) lh (pV m c j) ∗ (holdB c j ∗ any (xDev c) (tile xBuf j))) ⊢ preB m c j := by
  unfold holdB preB
  iintro ⟨Hp, ⟨Hcr, Hat, Hr, Hts, Htx, Hta, Ho⟩, Hx⟩
  isplitl [Hcr]; · iexact Hcr
  isplitl [Hat]; · iexact Hat
  isplitl [Hp]; · iexact Hp
  isplitl [Hr]; · iexact Hr
  isplitl [Hx]; · iexact Hx
  isplitl [Hts]; · iexact Hts
  isplitl [Htx]; · iexact Htx
  isplitl [Hta] <;> iassumption

theorem splitC (j : Fin 8) : iprop(keepA m c j ∗ (postB m c j ∗ (postD c j ∗ holdS c j))) ⊢ iprop(preS c j ∗ keepC m c j) := by
  unfold keepA postB postD holdS preS keepC
  iintro ⟨⟨Ha, Hs, Hr, Hcy⟩, ⟨Hb, Hp, Hy, Hcx, Hca⟩, ⟨Hd, Hcb⟩, Hys, Hxs, HA, HB⟩
  isplitl [Hcy Hcx Hys Hxs]
  · isplitl [Hcy]; · iexact Hcy
    isplitl [Hys]; · iexact Hys
    isplitl [Hcx] <;> iassumption
  isplitl [Ha Hs Hr]
  · isplitl [Ha]; · iexact Ha
    isplitl [Hs] <;> iassumption
  isplitl [Hb Hp Hy]
  · isplitl [Hb]; · iexact Hb
    isplitl [Hp] <;> iassumption
  isplitl [Hd]; · iexact Hd
  isplitl [Hca HA]
  · isplitl [Hca] <;> iassumption
  isplitl [Hcb] <;> iassumption

theorem splitD (j : Fin 8) : iprop(postS m c j ∗ keepC m c j)
    ⊢ iprop((crd c (kA j) ∗ pos0 c (kA j)) ∗ ((crd c (kB j) ∗ pos0 c (kB j)) ∗ keepD m c j)) := by
  unfold keepC keepD
  iintro ⟨HS, Ha, Hb, Hd, HA, HB⟩
  isplitl [HA]; · iexact HA
  isplitl [HB]; · iexact HB
  isplitl [Ha]; · iexact Ha
  isplitl [Hb]; · iexact Hb
  isplitl [Hd] <;> iassumption

theorem joinEnd (j : Fin 8) :
    iprop((pos1 c (kA j) ∗ pay m c (kA j)) ∗ ((pos1 c (kB j) ∗ pay m c (kB j)) ∗ keepD m c j)) ⊢ leaves m c j := by
  unfold pay keepD postS leaves
  iintro ⟨⟨Hka, Hoa, Hrl⟩, ⟨Hkb, Hob, Hx⟩, ⟨Hkd, Hs, Hr⟩, ⟨Hyr, Hpl, Hy⟩, Hxr, Hys, Hxs, Hpr, Hrr⟩
  isplitl [Hka Hkb Hkd Hyr Hxr Hys Hxs]
  · isplitl [Hkd]; · iexact Hkd
    isplitl [Hys]; · iexact Hys
    isplitl [Hyr]; · iexact Hyr
    isplitl [Hxs]; · iexact Hxs
    isplitl [Hxr]; · iexact Hxr
    isplitl [Hka] <;> iassumption
  isplitl [Hr]; · iexact Hr
  isplitl [Hoa]; · iexact Hoa
  isplitl [Hob]; · iexact Hob
  isplitl [Hs]; · iexact Hs
  isplitl [Hpl Hpr]
  · iapply (owns_halves (c : Thread nD τ) _ _ _).2; isplitl [Hpl] <;> iassumption
  isplitl [Hy]; · iexact Hy
  isplitl [Hrl Hrr]
  · iapply (owns_halves (c : Thread nD τ) _ _ _).2; isplitl [Hrl] <;> iassumption
  iexact Hx

/-- The body, from start to end. -/
theorem run_steps (Q : PUnit → sProp 𝕄) :
    iprop(ctx m K ∗ begin m c) ⊢ iprop((finish m c -∗ Q ⟨⟩) -∗ run c (line (steps c)) Q) := by
  unfold begin steps
  iintro ⟨#Hc, Hmeet, HpW, HatW, Hdy, HA, HB, HD, HS, HO⟩ Hk
  -- the copies start
  rw [show ∀ ss : List (Step F), line (startW c :: ss) = (startW c >>= fun _ => line ss) from fun _ => rfl]
  iapply (step_startW m K c (fun _ => line _) Q) $$ [HpW]
  · isplitr; · iexact Hc
    iexact HpW
  iintro HcW
  iapply (wp_chunks0 m K c startDy (preDy m c) (fun j => crd c (kDy j)) (oweStart c) (fun j k Q => by
      iintro ⟨#Hc, HA, HO⟩ Hk
      iapply (step_startDy m K c j k Q) $$ [HA]
      · isplitr; · iexact Hc
        iexact HA
      iintro Hcr
      iapply Hk
      isplitl [Hcr] <;> iassumption) _ Q) $$ [Hdy HO]
  · isplitr; · iexact Hc
    isplitl [Hdy] <;> iassumption
  iintro ⟨Hcd, HO⟩
  -- the partners meet
  rw [show ∀ ss : List (Step F), line (meet c :: ss) = (meet c >>= fun _ => line ss) from fun _ => rfl]
  iapply (step_meet m K c (fun _ => line _) Q) $$ [Hmeet HO]
  · isplitr; · iexact Hc
    isplitl [Hmeet] <;> iassumption
  unfold postMeet
  iintro ⟨⟨HyT, HxT, Hbar⟩, HO⟩
  -- `W` arrives
  rw [show ∀ ss : List (Step F), line (waitW c :: ss) = (waitW c >>= fun _ => line ss) from fun _ => rfl]
  iapply (step_waitW m K c (fun g u h => ⟨(above_oweAll c g u h).1, Nat.lt_of_succ_lt (above_oweAll c g u h).2⟩) (fun _ => line _) Q) $$ [HcW HO HatW]
  · isplitr; · iexact Hc
    isplitl [HcW]; · iexact HcW
    isplitl [HO] <;> iassumption
  iintro ⟨HO, HatW, HpW⟩
  ihave HpW' := (Entails.of_eq (show pay m c kW = iprop(own c wxM fullShare (wV m c) ∗ own c (wRows c) fullShare (wV m c)) from rfl)) $$ HpW
  icases HpW' with ⟨Hwx, Hwr⟩
  -- the partial products
  ihave HA := (each_join (F := F) (fun _ => .rfl)) $$ [HA HyT]
  · isplitl [HA] <;> iassumption
  ihave HA := (each_join (joinA0 (F := F) c)) $$ [Hcd HA]
  · isplitl [Hcd] <;> iassumption
  unfold oweAll
  iapply (wp_chunks m K c (stepA c) (preA c) (postA m c) (own c wxM fullShare (wV m c)) (oweY c) (∑ j, oweX c j) (fun j l k Q =>
      step_A m K c j (above_add (above_sum l _ fun i _ => above_tally (k := kYr i) (by show 0 < 2; decide))
        (by rw [← pays_sum, ← add_zero (List.sum _)]; exact above_pays c evs fun e _ _ => by omega)) k Q) _ Q) $$ [HA Hwx HO]
  · isplitr; · iexact Hc
    isplitl [HA]; · iexact HA
    isplitl [Hwx] <;> iassumption
  iintro ⟨HA, Hwx, HO⟩
  -- the reductions and drains
  ihave HA' := (each_split (splitA m c)) $$ HA
  icases HA' with ⟨HkA, Hp⟩
  ihave HB := (each_join (F := F) (fun _ => .rfl)) $$ [HB HxT]
  · isplitl [HB] <;> iassumption
  ihave HB := (each_join (joinB m c)) $$ [Hp HB]
  · isplitl [Hp] <;> iassumption
  iapply (wp_laced m K c _ Q) $$ [HB HD HO]
  · isplitr; · iexact Hc
    isplitl [HB]; · iexact HB
    isplitl [HD] <;> iassumption
  iintro ⟨HB, HD, HO⟩
  -- the closing waits
  ihave HS := (each_join (F := F) (fun _ => .rfl)) $$ [HD HS]
  · isplitl [HD] <;> iassumption
  ihave HS := (each_join (F := F) (fun _ => .rfl)) $$ [HB HS]
  · isplitl [HB] <;> iassumption
  ihave HS := (each_join (splitC m c)) $$ [HkA HS]
  · isplitl [HkA] <;> iassumption
  ihave HS' := (each_split (fun _ => .rfl)) $$ HS
  icases HS' with ⟨HS, HC⟩
  iapply (wp_chunks0 m K c waitSent (preS c) (postS m c) 0 (step_S m K c) _ Q) $$ [HS HO]
  · isplitr; · iexact Hc
    isplitl [HS] <;> iassumption
  iintro ⟨HS, HO⟩
  ihave HS := (each_join (splitD m c)) $$ [HS HC]
  · isplitl [HS] <;> iassumption
  ihave HS' := (each_split (fun _ => .rfl)) $$ HS
  icases HS' with ⟨HA, HS⟩
  ihave HS' := (each_split (fun _ => .rfl)) $$ HS
  icases HS' with ⟨HB, HD⟩
  iapply (wp_out m K c Q) $$ [HA HB HO]
  · isplitr; · iexact Hc
    isplitl [HA]; · iexact HA
    isplitl [HB] <;> iassumption
  iintro ⟨HA, HB, HO⟩
  ihave HS := (each_join (F := F) (fun _ => .rfl)) $$ [HB HD]
  · isplitl [HB] <;> iassumption
  ihave HS := (each_join (joinEnd m c)) $$ [HA HS]
  · isplitl [HA] <;> iassumption
  iapply Hk
  unfold finish
  isplitl [Hbar HatW]; · isplitl [Hbar] <;> iassumption
  isplitl [Hwr Hwx]; · isplitl [Hwr] <;> iassumption
  isplitl [HS] <;> iassumption

end Cert.KernelProof

end
-- ==== Proof.Pieces.lean ====
/-
# The buffers and their pieces

Each buffer of a device taken apart into the pieces the steps use, and put together again: the tiles of the scratch
buffers, the chunks of `dy`, the used half of `W`, and the sixteen blocks of the result.
-/
module

public import proofs.«01_k».proof.Proof.Run

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Whole buffers -/

/-- A whole buffer at some contents. -/
theorem any_whole (b : Ref sig .tc) :
    any (F := F) c (Memref.whole b) = iprop(∃ f : Buf (Elt F) ((c : Thread nD τ).loc b), ((c : Thread nD τ).loc b) ↦{fullShare} f) := by
  have h₁ : any (F := F) c (Memref.whole b) ⊢ iprop(∃ f : Buf (Elt F) ((c : Thread nD τ).loc b), ((c : Thread nD τ).loc b) ↦{fullShare} f) := by
    iintro H
    ihave H' := (any_own c (Memref.whole b)) $$ H
    icases H' with ⟨%X, H⟩
    iexists X
    rw [← owns_whole]
    iexact H
  have h₂ : iprop(∃ f : Buf (Elt F) ((c : Thread nD τ).loc b), ((c : Thread nD τ).loc b) ↦{fullShare} f) ⊢ any (F := F) c (Memref.whole b) := by
    iintro ⟨%f, H⟩
    iapply (own_any c (Memref.whole b) f)
    unfold own
    rw [owns_whole]
    iexact H
  exact BI.equiv_iff.mp ⟨h₁, h₂⟩

/-- Dropping axes of extent one changes no element. -/
theorem any_squeeze {sp : Space} {s s' : Shape} {e : EltTy} (M : Memref sig .tc sp s e) (h : s.Squeezes s') :
    any (F := F) c (M.squeeze s' h) = any c M := by
  unfold any ownsSat
  rw [show (M.squeeze s' h).view.set = M.view.set from View.set_reshape _ _]

/-! ## Scratch tiles -/

theorem rT_disjoint (t t' : Fin 8) (h : t ≠ t') : Disjoint (rT t).set (rT t').set := by
  rw [Finset.disjoint_left]
  intro i hi hi'
  rw [Rect.mem_set_unit] at hi hi'
  have h0 := hi 0
  have h1 := hi' 0
  simp only [Matrix.cons_val_zero, S1x128x512] at h0 h1
  exact h (Fin.ext (by omega))
theorem rT_cover : (Finset.univ : Finset (Fin 8)).biUnion (fun t => (rT t).set) = Finset.univ := by
  refine Finset.eq_univ_iff_forall.mpr fun i => Finset.mem_biUnion.mpr ⟨⟨(i 0).val, (i 0).isLt⟩, Finset.mem_univ _, ?_⟩
  rw [Rect.mem_set_unit]
  intro a
  fin_cases a
  · exact ⟨le_rfl, Nat.lt_succ_self _⟩
  · exact ⟨Nat.zero_le _, (Nat.zero_add _).symm ▸ (i 1).isLt⟩
  · exact ⟨Nat.zero_le _, (Nat.zero_add _).symm ▸ (i 2).isLt⟩

theorem rD_disjoint (t t' : Fin 8) (h : t ≠ t') : Disjoint (rD t).set (rD t').set := by
  rw [Finset.disjoint_left]
  intro i hi hi'
  rw [Rect.mem_set_unit] at hi hi'
  have h0 := hi 0
  have h1 := hi' 0
  simp only [Matrix.cons_val_zero, S1x128x4096] at h0 h1
  exact h (Fin.ext (by omega))
theorem rD_cover : (Finset.univ : Finset (Fin 8)).biUnion (fun t => (rD t).set) = Finset.univ := by
  refine Finset.eq_univ_iff_forall.mpr fun i => Finset.mem_biUnion.mpr ⟨⟨(i 0).val, (i 0).isLt⟩, Finset.mem_univ _, ?_⟩
  rw [Rect.mem_set_unit]
  intro a
  fin_cases a
  · exact ⟨le_rfl, Nat.lt_succ_self _⟩
  · exact ⟨Nat.zero_le _, (Nat.zero_add _).symm ▸ (i 1).isLt⟩
  · exact ⟨Nat.zero_le _, (Nat.zero_add _).symm ▸ (i 2).isLt⟩

/-- A buffer at some contents, by the slices of a family that cuts it up. -/
theorem any_rects {sp : Space} {s : Shape} {e : EltTy} (M : Memref sig .tc sp s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    any (F := F) c M ⊢ bigSep Finset.univ fun t => any c (M.slice (r t) (hr t)) :=
  BIBase.Entails.trans (ownsSat_mono (c : Thread nD τ) M fullShare fun _ _ _ => trivial)
    (ownsSat_rects (c : Thread nD τ) M fullShare r hr hd hcov fun _ _ => True)
/-- And back. -/
theorem any_of_rects {sp : Space} {s : Shape} {e : EltTy} (M : Memref sig .tc sp s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => any c (M.slice (r t) (hr t))) ⊢ any (F := F) c M :=
  BIBase.Entails.trans (ownsSat_of_rects (c : Thread nD τ) M fullShare r hr hd hcov fun _ _ => True)
    (ownsSat_mono (c : Thread nD τ) M fullShare fun _ _ => trivial)

theorem tiles_split (M : Memref sig .tc .vmem S8x128x512 .f32) : any (F := F) c M ⊢ each fun j => any c (tile M j) :=
  (any_rects c M rT (fun _ _ => rfl) rT_disjoint rT_cover).trans (bigSep_mono fun j _ => Entails.of_eq (any_squeeze c _ _).symm)
theorem tiles_join (M : Memref sig .tc .vmem S8x128x512 .f32) : (each fun j => any c (tile M j)) ⊢ any (F := F) c M :=
  BIBase.Entails.trans (bigSep_mono fun j _ => Entails.of_eq (any_squeeze c _ _)) (any_of_rects c M rT (fun _ _ => rfl) rT_disjoint rT_cover)
theorem slots_split : any (F := F) c dyBuf ⊢ each fun j => any c (dySlot j) :=
  (any_rects c dyBuf rD (fun _ _ => rfl) rD_disjoint rD_cover).trans (bigSep_mono fun j _ => Entails.of_eq (any_squeeze c _ _).symm)
theorem slots_join : (each fun j => any c (dySlot j)) ⊢ any (F := F) c dyBuf :=
  BIBase.Entails.trans (bigSep_mono fun j _ => Entails.of_eq (any_squeeze c _ _)) (any_of_rects c dyBuf rD (fun _ _ => rfl) rD_disjoint rD_cover)

/-! ## The chunks of `dy` -/

/-- The used half of `W`, as a rectangle. -/
abbrev rW (d : Dev nD) : Rect S1024x4096 := Rect.unit (s := S1024x4096) (k0_off1 d) S512x4096.size (k0_off1_inb d)
/-- Rows `128 t …`, as a rectangle. -/
abbrev rR (t : Fin 8) : Rect S1024x4096 := Rect.unit (s := S1024x4096) ![128 * t.val, 0] S128x4096.size (inbR t)
theorem rR_disjoint (t t' : Fin 8) (h : t ≠ t') : Disjoint (rR t).set (rR t').set := by
  rw [Finset.disjoint_left]
  intro i hi hi'
  rw [Rect.mem_set_unit] at hi hi'
  have h0 := hi 0
  have h1 := hi' 0
  simp only [Matrix.cons_val_zero, S128x4096] at h0 h1
  exact h (Fin.ext (by omega))
theorem rR_cover : (Finset.univ : Finset (Fin 8)).biUnion (fun t => (rR t).set) = Finset.univ := by
  refine Finset.eq_univ_iff_forall.mpr fun i => ?_
  have hi : (i 0).val < 1024 := (i 0).isLt
  refine Finset.mem_biUnion.mpr ⟨⟨(i 0).val / 128, by omega⟩, Finset.mem_univ _, ?_⟩
  rw [Rect.mem_set_unit]
  intro a
  fin_cases a
  · show 128 * ((i 0).val / 128) ≤ (i 0).val ∧ (i 0).val < 128 * ((i 0).val / 128) + 128
    omega
  · exact ⟨Nat.zero_le _, (Nat.zero_add _).symm ▸ (i 1).isLt⟩

theorem dy_split : (((c : Thread nD τ).loc main_arg0) ↦{fullShare} m ((c : Thread nD τ).loc main_arg0) : sProp 𝕄)
    ⊢ (each fun j => own c (dyRows j) fullShare (dyV m c j) : sProp 𝕄) := by
  rw [← owns_whole]
  exact owns_rects (c : Thread nD τ) dyM fullShare rR (fun _ _ => rfl) rR_disjoint rR_cover _
theorem dy_join : (each fun j => own c (dyRows j) fullShare (dyV m c j) : sProp 𝕄)
    ⊢ (((c : Thread nD τ).loc main_arg0) ↦{fullShare} m ((c : Thread nD τ).loc main_arg0) : sProp 𝕄) := by
  rw [← owns_whole]
  exact owns_of_rects (c : Thread nD τ) dyM fullShare rR (fun _ _ => rfl) rR_disjoint rR_cover _

/-! ## The used half of `W` -/

/-- The half of `W` that is not used. -/
def wRest : sProp 𝕄 :=
  iprop(∃ f, ⌜wM.view.read (Elt F) f = m ((c : Thread nD τ).loc main_arg1)⌝ ∗ wM.view.loc (c : Thread nD τ) ↦[wM.view.set \ (wRows c).view.set]{fullShare} f)

theorem w_split : (((c : Thread nD τ).loc main_arg1) ↦{fullShare} m ((c : Thread nD τ).loc main_arg1) : sProp 𝕄)
    ⊢ (iprop(own c (wRows c) fullShare (wV m c) ∗ wRest m c) : sProp 𝕄) := by
  rw [← owns_whole]
  exact owns_slice_split (c : Thread nD τ) wM fullShare (rW c) (fun _ => rfl) _

/-- Contents put back where they were. -/
theorem overlay_self {s : Shape} {α : Type} (r : Rect s) (X : s.Idx → α) : r.overlay X (fun i => X (r.emb i)) = X := by
  funext j
  by_cases h : j ∈ r.set
  · rw [← Rect.map_emb_univ, Finset.mem_map] at h
    obtain ⟨i, -, rfl⟩ := h
    exact Rect.overlay_emb r X _ i
  · exact Rect.overlay_of_not_mem r X _ h

theorem w_join : (iprop(own c (wRows c) fullShare (wV m c) ∗ wRest m c) : sProp 𝕄)
    ⊢ (((c : Thread nD τ).loc main_arg1) ↦{fullShare} m ((c : Thread nD τ).loc main_arg1) : sProp 𝕄) := by
  unfold wRest
  iintro ⟨Hw, %f, %hf, Hr⟩
  rw [← owns_whole]
  have h := owns_slice_join (Ix := Unit) (Name := ℕ) (U := UU) (Lvl := ℕ) (c : Thread nD τ) wM fullShare (rW c) (fun _ => rfl) (wV m c) f
  have e : Rect.overlay (rW c) (wM.view.read (Elt F) f) (wV m c)
      = m ((c : Thread nD τ).loc main_arg1) := by
    rw [hf]; exact overlay_self _ _
  rw [e] at h
  iapply h
  isplitl [Hw] <;> iassumption

/-! ## The blocks of the result -/

/-- Where block `t` of the result lies: `(false, j)` is chunk `j` of the own half, `(true, j)` of the other half. -/
def offO (d : Dev nD) (t : Bool × Fin 8) : Fin 2 → ℕ := ![128 * t.2.val, if t.1 then k0_off5 d 1 else k0_off2 d 1]
theorem offO_inb (d : Dev nD) (t : Bool × Fin 8) : ∀ a, offO d t a + S128x512.size a ≤ S1024x1024.size a := by
  rcases t with ⟨b, j⟩
  cases b
  · exact offA_inb d j
  · exact offB_inb d j
abbrev rO (d : Dev nD) (t : Bool × Fin 8) : Rect S1024x1024 := Rect.unit (s := S1024x1024) (offO d t) S128x512.size (offO_inb d t)

/-- The two halves of the result's columns. -/
theorem cols (d : Dev nD) : (k0_off2 d 1 = 0 ∧ k0_off5 d 1 = 512) ∨ (k0_off2 d 1 = 512 ∧ k0_off5 d 1 = 0) := by
  revert d; decide +kernel

theorem rO_disjoint (d : Dev nD) (t t' : Bool × Fin 8) (h : t ≠ t') : Disjoint (rO d t).set (rO d t').set := by
  rw [Finset.disjoint_left]
  intro i hi hi'
  rw [Rect.mem_set_unit] at hi hi'
  have h0 := hi 0
  have h1 := hi' 0
  have h2 := hi 1
  have h3 := hi' 1
  simp only [offO, Matrix.cons_val_zero, Matrix.cons_val_one, S128x512] at h0 h1 h2 h3
  rcases t with ⟨b, j⟩
  rcases t' with ⟨b', j'⟩
  have hj : j = j' := Fin.ext (by dsimp only at h0 h1; omega)
  subst hj
  have hc := cols d
  cases b <;> cases b' <;> simp at h h2 h3 <;> omega
theorem rO_cover (d : Dev nD) : (Finset.univ : Finset (Bool × Fin 8)).biUnion (fun t => (rO d t).set) = Finset.univ := by
  refine Finset.eq_univ_iff_forall.mpr fun i => ?_
  have hi : (i 0).val < 1024 := (i 0).isLt
  have hi' : (i 1).val < 1024 := (i 1).isLt
  have hc := cols d
  have key (b : Bool) (h : (if b then k0_off5 d 1 else k0_off2 d 1) ≤ (i 1).val ∧ (i 1).val < (if b then k0_off5 d 1 else k0_off2 d 1) + 512) :
      i ∈ (Finset.univ : Finset (Bool × Fin 8)).biUnion (fun t => (rO d t).set) := by
    refine Finset.mem_biUnion.mpr ⟨(b, ⟨(i 0).val / 128, by omega⟩), Finset.mem_univ _, ?_⟩
    rw [Rect.mem_set_unit]
    intro a
    fin_cases a
    · show 128 * ((i 0).val / 128) ≤ (i 0).val ∧ (i 0).val < 128 * ((i 0).val / 128) + 128
      omega
    · exact h
  by_cases hA : k0_off2 d 1 ≤ (i 1).val ∧ (i 1).val < k0_off2 d 1 + 512
  · exact key false hA
  · exact key true (by simp only [if_true]; omega)

theorem blocks_each (Φ : Bool × Fin 8 → sProp 𝕄) : bigSep Finset.univ Φ = iprop((each fun j => Φ (false, j)) ∗ each fun j => Φ (true, j)) := by
  rw [bigSep_univ_prod, bigSep_univ_eq_bigSepL [false, true] (by decide) (by decide)]
  rfl

theorem out_split : any (F := F) c oM ⊢ iprop((each fun j => any c (outA c j)) ∗ each fun j => any c (outB c j)) :=
  (any_rects c oM (rO c) (fun _ _ => rfl) (rO_disjoint c) (rO_cover c)).trans
    (Entails.of_eq (blocks_each fun t => any c (oM.slice (rO c t) fun _ => rfl)))

/-- Contents of the result whose blocks are `X` in the own half and `Y` in the other. -/
def Made (X Y : Fin 8 → Vec F S128x512 .f32) (f : Buf (Elt F) ((c : Thread nD τ).loc main_v1)) : Prop :=
  ∀ j, (outA c j).view.read (Elt F) f = X j ∧ (outB c j).view.read (Elt F) f = Y j

theorem out_join (X Y : Fin 8 → Vec F S128x512 .f32) :
    iprop((each fun j => own c (outA c j) fullShare (X j)) ∗ each fun j => own c (outB c j) fullShare (Y j))
      ⊢ (iprop(∃ f : Buf (Elt F) ((c : Thread nD τ).loc main_v1), ⌜Made c X Y f⌝ ∗ ((c : Thread nD τ).loc main_v1) ↦{fullShare} f) : sProp 𝕄) := by
  have h := ownsSat_of_rects (Ix := Unit) (Name := ℕ) (U := UU) (Lvl := ℕ) (Val := Elt F) (c : Thread nD τ) oM fullShare (rO c) (fun _ _ => rfl) (rO_disjoint c) (rO_cover c)
    (fun t Z => Z = if t.1 then Y t.2 else X t.2)
  rw [blocks_each] at h
  refine BIBase.Entails.trans (BIBase.Entails.trans ?_ h) ?_
  · exact .rfl
  · refine (ownsSat_elim (c : Thread nD τ) oM fullShare _).trans ?_
    iintro ⟨%Z, %hZ, H⟩
    iexists Z
    isplitr
    · ipureintro
      exact fun j => ⟨hZ (false, j), hZ (true, j)⟩
    · rw [← owns_whole]; iexact H

end Cert.KernelProof

end
-- ==== Proof.Deal.lean ====
/-
# What the launch deals

Every device's semaphores enter the schedule at the start; each device gets its own positions, the tokens of the duties
it pays — its own copies' and departures', and its partners' arrivals' and barriers' — and the credit its partners owe it.
-/
module

public import proofs.«01_k».proof.Proof.Pieces
public import Idealize.ShloMosaic.Lib.Rounds.Family

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores of a device -/

/-- The DMA semaphores, all of them the kernel's own. -/
abbrev osem (k : Kd) : SemLoc sig := .dma (semOf k)

theorem osem_injective : Function.Injective osem := fun a b h => semOf_injective (by injection h)
theorem ownSemFacts : Pipeline.OwnSemFacts cfg0.spec osem where
  isScoped := by decide +kernel
  inj := osem_injective
  disj := fun _ w => w.elim0

theorem cell_eq_iff {a b : Dev nD} {k k' : Kd} : cell a k = cell b k' ↔ a = b ∧ k = k' := by
  constructor
  · intro h
    exact ⟨congrArg (fun g : GSem nD τ sig => g.1.1) h, osem_injective (congrArg Prod.snd h)⟩
  · rintro ⟨rfl, rfl⟩; rfl
theorem barCell_eq_iff {a b : Dev nD} : barCell a = barCell b ↔ a = b :=
  ⟨fun h => congrArg (fun g : GSem nD τ sig => g.1.1) h, fun h => h ▸ rfl⟩
theorem cell_ne_bar {a b : Dev nD} {k : Kd} : cell a k ≠ barCell b := fun h => by
  have := congrArg Prod.snd h
  cases this

theorem gcell_injective : Function.Injective gcell := by
  rintro ⟨c, k⟩ ⟨c', k'⟩ h
  rcases k with ⟨⟨⟩⟩ | k <;> rcases k' with ⟨⟨⟩⟩ | k'
  · rw [barCell_eq_iff.mp h]
  · exact absurd h.symm cell_ne_bar
  · exact absurd h cell_ne_bar
  · obtain ⟨rfl, rfl⟩ := cell_eq_iff.mp h; rfl

/-- By family. -/
theorem kinds_each (Φ : Kd → sProp 𝕄) : bigSep Finset.univ Φ
    = iprop(Φ kW ∗ (each fun j => Φ (kDy j)) ∗ (each fun j => Φ (kYs j)) ∗ (each fun j => Φ (kYr j)) ∗ (each fun j => Φ (kXs j))
        ∗ (each fun j => Φ (kXr j)) ∗ (each fun j => Φ (kA j)) ∗ each fun j => Φ (kB j)) := by
  rw [bigSep_univ_sum, bigSep_univ_prod, bigSep_univ_eq_bigSepL (I := Unit) [()] (by decide) (by decide),
    bigSep_univ_eq_bigSepL (I := Fin 7) [0, 1, 2, 3, 4, 5, 6] (by decide) (by decide)]
  rfl
theorem cells_each (Φ : Cl → sProp 𝕄) : bigSep Finset.univ Φ = iprop(Φ (.inl ()) ∗ bigSep Finset.univ fun k => Φ (.inr k)) := by
  rw [bigSep_univ_sum, bigSep_univ_eq_bigSepL (I := Unit) [()] (by decide) (by decide)]
  rfl

/-! ## The launch element -/

def ringCells : Finset (GSem nD τ sig) := Finset.univ.map ⟨gcell, gcell_injective⟩

/-- The duties: each barrier's two, every other semaphore's one. -/
def tokOf : Dev nD × (Bool ⊕ Kd) → GSem nD τ sig × ℕ × Bool
  | (c, .inl b) => (barCell c, 0, b)
  | (c, .inr k) => (cell c k, 0, false)
theorem tokOf_injective : Function.Injective tokOf := by
  rintro ⟨c, k⟩ ⟨c', k'⟩ h
  rcases k with b | k <;> rcases k' with b' | k'
  · have h1 := congrArg (fun x : GSem nD τ sig × ℕ × Bool => x.1) h
    have h2 : b = b' := congrArg (fun x : GSem nD τ sig × ℕ × Bool => x.2.2) h
    rw [barCell_eq_iff.mp h1, h2]
  · exact absurd (congrArg Prod.fst h).symm cell_ne_bar
  · exact absurd (congrArg Prod.fst h) cell_ne_bar
  · obtain ⟨rfl, rfl⟩ := cell_eq_iff.mp (congrArg Prod.fst h); rfl
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of the duties of device `c`'s semaphores. -/
def toks (c : Dev nD) : sProp 𝕄 :=
  iprop((dutyTok ER (barCell c) 0 false ∗ dutyTok ER (barCell c) 0 true) ∗ bigSep Finset.univ fun k => tok c k)

/-- What the launch element is to device `c`. -/
def G (c : Dev nD) : sProp 𝕄 :=
  iprop((bigSep Finset.univ fun k : Cl => roundState ER (rd m) (gcell (c, k)) 0)
    ∗ ((bigSep Finset.univ fun k : Cl => atPos ER (gcell (c, k)) 0 ∅ 0) ∗ bigSep Finset.univ fun k : Cl => reached ER (gcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (gcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL (I := Bool) [false, true] (by decide) (by decide)]
    rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Into the schedule -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores, all at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Cl => semVal (gcell (c, k)) 0 : sProp 𝕄) := by
  rw [unscopedSems0_eq, cells_each]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (gcell (c, k))))
          ∗ ((bigSep Finset.univ fun k : Cl => atPos ER (gcell (c, k)) 0 ∅ 0) ∗ bigSep Finset.univ fun k : Cl => reached ER (gcell (c, k)) 0) ∗ toks c) := by
  unfold G
  iintro ⟨Hos, Hus, Hst, Hat, Htok⟩
  ihave Hv := (Entails.of_eq (sems0_eq (F := F) c)) $$ [Hos Hus]
  · isplitl [Hus] <;> iassumption
  have h : iprop((bigSep Finset.univ fun k : Cl => semVal (gcell (c, k)) 0) ∗ bigSep Finset.univ fun k : Cl => roundState ER (rd m) (gcell (c, k)) 0)
      ⊢ (|={Set.univ}=> bigSep Finset.univ fun k => iprop(∃ κ : ℕ, cellInv ER (rd m) κ (gcell (c, k))) : sProp 𝕄) := by
    rw [← bigSep_sep']
    exact (bigSep_mono fun k _ => (Rounds.body_intro ER (rd m) (gcell (c, k))).trans inv_alloc).trans (bigSep_fupd _ _)
  imod h $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((dutyTok ER (barCell (yDev c)) 0 false ∗ dutyTok ER (barCell (xDev c)) 0 true)
    ∗ tok c kW ∗ (each fun j => tok c (kDy j)) ∗ (each fun j => tok c (kYs j)) ∗ (each fun j => tok (yDev c) (kYr j)) ∗ (each fun j => tok c (kXs j))
    ∗ (each fun j => tok (xDev c) (kXr j)) ∗ (each fun j => tok c (kA j)) ∗ each fun j => tok c (kB j))

/-- The tokens go to who pays the duties. -/
theorem toks_around : (bigSep Finset.univ fun c : Dev nD => (toks c : sProp 𝕄)) ⊢ bigSep Finset.univ fun c : Dev nD => payToks c := by
  unfold toks payToks
  simp only [kinds_each]
  simp only [bigSep_sep' (s := (Finset.univ : Finset (Dev nD)))]
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (each fun j => tok c (kYr j) : sProp 𝕄)),
    bigSep_univ_equiv xEquiv (fun c : Dev nD => (each fun j => tok c (kXr j) : sProp 𝕄))]
  exact .rfl

/-- What stays with device `c`: where each of its semaphores stands, and its tokens. -/
def linear (c : Dev nD) : sProp 𝕄 := iprop((bigSep Finset.univ fun k : Cl => atPos ER (gcell (c, k)) 0 ∅ 0) ∗ payToks c)

/-- What device `c` has of the schedule. -/
def G' (c : Dev nD) : sProp 𝕄 := iprop(∃ K, recs m K ∗ linear c)

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (K : Dev nD × Cl → ℕ) (c : Dev nD) : iprop(recs m K ∗ linear c) ⊢ G' m c := by
  unfold G'
  iintro H
  iexists K
  iexact H

theorem regroup :
    (bigSep Finset.univ fun c : Dev nD => iprop((bigSep Finset.univ fun k => iprop(∃ κ : ℕ, cellInv ER (rd m) κ (gcell (c, k))))
          ∗ ((bigSep Finset.univ fun k : Cl => atPos ER (gcell (c, k)) 0 ∅ 0) ∗ bigSep Finset.univ fun k : Cl => reached ER (gcell (c, k)) 0) ∗ toks c) : sProp 𝕄)
      ⊢ bigSep Finset.univ (G' m) := by
  rw [bigSep_sep', bigSep_sep', bigSep_sep', ← bigSep_univ_prod (fun ck : Dev nD × Cl => iprop(∃ κ : ℕ, cellInv ER (rd m) κ (gcell ck))),
    ← bigSep_univ_prod (fun ck : Dev nD × Cl => (reached ER (gcell ck) 0 : sProp 𝕄))]
  iintro ⟨HI, ⟨Hat, #HR⟩, Htok⟩
  ihave HK := (BI.bigSep_exists_pi Finset.univ (fun (ck : Dev nD × Cl) (κ : ℕ) => (cellInv ER (rd m) κ (gcell ck) : sProp 𝕄))) $$ HI
  icases HK with ⟨%K, #HI⟩
  ihave Htk := (toks_around (F := F)) $$ Htok
  iapply (share_out (R := recs m K) fun c _ => linear_intro m K c)
  isplitr
  · unfold recs; isplitl; · iexact HI
    iexact HR
  · iapply (Entails.of_eq (bigSep_sep' Finset.univ (fun c : Dev nD => bigSep Finset.univ fun k : Cl => (atPos ER (gcell (c, k)) 0 ∅ 0 : sProp 𝕄)) payToks).symm)
    isplitl [Hat]; · iexact Hat
    iexact Htk

/-- Every device's semaphores and launch elements become every device's part of the schedule. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem eq_yDev {c d : Dev nD} : c = yDev d ↔ d = yDev c :=
  ⟨fun h => by rw [h, yDev_yDev], fun h => by rw [h, yDev_yDev]⟩
theorem eq_xDev {c d : Dev nD} : c = xDev d ↔ d = xDev c :=
  ⟨fun h => by rw [h, xDev_xDev], fun h => by rw [h, xDev_xDev]⟩

theorem kYr_eq_iff {i j : Fin 8} : kYr i = kYr j ↔ i = j := ⟨fun h => by simpa using h, fun h => h ▸ rfl⟩
theorem kXr_eq_iff {i j : Fin 8} : kXr i = kXr j ↔ i = j := ⟨fun h => by simpa using h, fun h => h ▸ rfl⟩
theorem kYr_ne_kXr {i j : Fin 8} : kYr i ≠ kXr j := fun h => by simp at h

/-- Eight arrivals owed to `d`, each of `n` units, at one semaphore. -/
theorem arrivals_apply (d : Dev nD) (k : Fin 8 → Kd) (n : ℕ) (g : GSem nD τ sig) :
    (∑ j, (tallyAt (cell d (k j)) () n : CellTallies nD τ sig Unit)) g () = ∑ j, if g = cell d (k j) then n else 0 := by
  rw [Finset.sum_apply, Finsupp.finset_sum_apply]
  refine Finset.sum_congr rfl fun j _ => ?_
  rw [tallyAt_apply]
  simp only [and_true]

theorem arrivals_at (c d : Dev nD) (k : Fin 8 → Kd) (hk : ∀ i j, k i = k j → i = j) (n : ℕ) (j : Fin 8) :
    (∑ i, (tallyAt (cell d (k i)) () n : CellTallies nD τ sig Unit)) (cell c (k j)) () = if c = d then n else 0 := by
  rw [arrivals_apply]
  by_cases h : c = d
  · subst h
    rw [if_pos rfl, Finset.sum_eq_single j, if_pos rfl]
    · exact fun i _ hi => if_neg fun h => hi (hk _ _ (cell_eq_iff.mp h).2).symm
    · exact fun h => absurd (Finset.mem_univ j) h
  · rw [if_neg h]
    exact Finset.sum_eq_zero fun i _ => if_neg fun h' => h (cell_eq_iff.mp h').1
theorem arrivals_off (d : Dev nD) (k : Fin 8 → Kd) (n : ℕ) (g : GSem nD τ sig) (hg : ∀ i, g ≠ cell d (k i)) :
    (∑ i, (tallyAt (cell d (k i)) () n : CellTallies nD τ sig Unit)) g () = 0 := by
  rw [arrivals_apply]
  exact Finset.sum_eq_zero fun i _ => if_neg (hg i)

theorem oweStart_apply (d : Dev nD) (g : GSem nD τ sig) : oweStart d g ()
    = (((∑ j, oweY d j) g () + (∑ j, oweX d j) g ()) + (tallyAt (barCell (xDev d)) () 1 : CellTallies nD τ sig Unit) g ())
      + (tallyAt (barCell (yDev d)) () 1 : CellTallies nD τ sig Unit) g () := rfl

theorem bar_off (e c : Dev nD) (k : Kd) (n : ℕ) : (tallyAt (barCell e) () n : CellTallies nD τ sig Unit) (cell c k) () = 0 := by
  rw [tallyAt_apply]
  exact if_neg fun h => cell_ne_bar h.1

theorem owed_bar (d c : Dev nD) : oweStart d (barCell c) () = (if d = xDev c then 1 else 0) + if d = yDev c then 1 else 0 := by
  rw [oweStart_apply, arrivals_off (yDev d) kYr N _ fun i h => cell_ne_bar h.symm, arrivals_off (xDev d) kXr N _ fun i h => cell_ne_bar h.symm,
    tallyAt_apply, tallyAt_apply]
  simp only [barCell_eq_iff, and_true, eq_xDev, eq_yDev (c := c), Nat.zero_add, Nat.add_zero]
theorem owed_y (d c : Dev nD) (j : Fin 8) : oweStart d (cell c (kYr j)) () = if d = yDev c then N else 0 := by
  rw [oweStart_apply, arrivals_at c (yDev d) kYr (fun _ _ => kYr_eq_iff.mp) N j,
    arrivals_off (xDev d) kXr N _ fun i h => kYr_ne_kXr (cell_eq_iff.mp h).2, bar_off, bar_off]
  simp only [eq_yDev (c := c), Nat.add_zero]
theorem owed_x (d c : Dev nD) (j : Fin 8) : oweStart d (cell c (kXr j)) () = if d = xDev c then N else 0 := by
  rw [oweStart_apply, arrivals_at c (xDev d) kXr (fun _ _ => kXr_eq_iff.mp) N j,
    arrivals_off (yDev d) kYr N _ fun i h => kYr_ne_kXr (cell_eq_iff.mp h).2.symm, bar_off, bar_off]
  simp only [eq_xDev (c := c), Nat.add_zero, Nat.zero_add]

/-- What all devices owe one semaphore, when one device owes it. -/
theorem launch_at (g : GSem nD τ sig) (n : ℕ) (h : ∑ d : Dev nD, oweStart d g () = n) :
    tallyOn g (launchCredit (Pipeline.owing oweStart) 0 g) = (tallyAt g () n : CellTallies nD τ sig Unit) := by
  unfold tallyAt
  refine congrArg _ (Finsupp.ext fun u => ?_)
  cases u
  rw [Pipeline.launchCredit_owing, Finsupp.single_eq_same, h]

theorem sum_one (e : Dev nD) (n : ℕ) : (∑ d : Dev nD, if d = e then n else 0) = n := by
  rw [Finset.sum_ite_eq' Finset.univ e fun _ => n, if_pos (Finset.mem_univ _)]
theorem launch_bar (c : Dev nD) :
    tallyOn (barCell c) (launchCredit (Pipeline.owing oweStart) 0 (barCell c)) = (tallyAt (barCell c) () 2 : CellTallies nD τ sig Unit) :=
  launch_at _ _ (by rw [Finset.sum_congr rfl fun d _ => owed_bar d c, Finset.sum_add_distrib, sum_one, sum_one])
theorem launch_y (c : Dev nD) (j : Fin 8) :
    tallyOn (cell c (kYr j)) (launchCredit (Pipeline.owing oweStart) 0 (cell c (kYr j))) = (tallyAt (cell c (kYr j)) () (amt (kYr j)) : CellTallies nD τ sig Unit) :=
  launch_at _ _ (by rw [Finset.sum_congr rfl fun d _ => owed_y d c j, sum_one]; rfl)
theorem launch_x (c : Dev nD) (j : Fin 8) :
    tallyOn (cell c (kXr j)) (launchCredit (Pipeline.owing oweStart) 0 (cell c (kXr j))) = (tallyAt (cell c (kXr j)) () (amt (kXr j)) : CellTallies nD τ sig Unit) :=
  launch_at _ _ (by rw [Finset.sum_congr rfl fun d _ => owed_x d c j, sum_one]; rfl)

/-- The semaphores that partners raise. -/
def credAt : Unit ⊕ (Fin 8 ⊕ Fin 8) → SemLoc sig
  | .inl _ => .reg barS
  | .inr (.inl j) => osem (kYr j)
  | .inr (.inr j) => osem (kXr j)
theorem credAt_injective : Function.Injective credAt := by
  rintro (⟨⟩ | i | i) (⟨⟩ | j | j) h
  · rfl
  · cases h
  · cases h
  · cases h
  · rw [kYr_eq_iff.mp (osem_injective h)]
  · exact absurd (osem_injective h) kYr_ne_kXr
  · cases h
  · exact absurd (osem_injective h).symm kYr_ne_kXr
  · rw [kXr_eq_iff.mp (osem_injective h)]

theorem creds (c : Dev nD) : (Pipeline.launchCred oweStart c : sProp 𝕄)
    ⊢ iprop(cred (tallyAt (barCell c) () 2) ∗ (each fun j => crd c (kYr j)) ∗ each fun j => crd c (kXr j)) := by
  unfold Pipeline.launchCred
  refine (BI.bigSep_subset (Finset.subset_univ (Finset.univ.map ⟨credAt, credAt_injective⟩))).trans ?_
  rw [bigSep_map, bigSep_univ_sum, bigSep_univ_sum, bigSep_univ_eq_bigSepL (I := Unit) [()] (by decide) (by decide)]
  refine sep_mono (Entails.of_eq (congrArg cred (launch_bar c))) (sep_mono ?_ ?_)
  · exact bigSep_mono fun j _ => Entails.of_eq (congrArg cred (launch_y c j))
  · exact bigSep_mono fun j _ => Entails.of_eq (congrArg cred (launch_x c j))

end Cert.KernelProof

end
-- ==== Proof.Launch.lean ====
/-
# The run of the kernel

The launch deals each device its part; the device runs the body and puts its buffers together again; so every run ends
with the operands as they were, every semaphore at zero, and each device's result in blocks: its own half of the columns
from the sums it made, the other half from the sums its x partner made.
-/
module

public import proofs.«01_k».proof.Proof.Deal
public import Idealize.ShloMosaic.Lib.Pipeline.CollectiveSegs
public import Idealize.ShloMosaic.Lib.Quiescent

@[expose] public section

noncomputable section

namespace Cert.KernelProof

open Cert.KernelIdeal Cert.KernelIdeal.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Device
variable (c : Dev nD)

/-! ## From the launch to the first step -/

/-- The scratch buffers at some contents. -/
def scratch : sProp 𝕄 := iprop(any c wxM ∗ any c dyBuf ∗ any c pBuf ∗ any c yBuf ∗ any c redBuf ∗ any c xBuf)

theorem scratch_eq : (Pipeline.scopedRest cfg0.spec c : sProp 𝕄) = scratch c := by
  rw [scopedRest0_eq]
  unfold scratch
  rw [any_whole, any_whole, any_whole, any_whole, any_whole, any_whole]

/-- The operands as they were launched. -/
def args : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- What device `c` starts with beside its scratch buffers. -/
def start : sProp 𝕄 :=
  iprop(G' m c ∗ (cred (tallyAt (barCell c) () 2) ∗ (each fun j => crd c (kYr j)) ∗ each fun j => crd c (kXr j)) ∗ levAts L lv
    ∗ args m c ∗ any c oM)

theorem each_preDy : each (preDy m c) = iprop((each fun j => own c (dyRows j) fullShare (dyV m c j)) ∗ (each fun j => any c (dySlot j)) ∗ each fun j => tok c (kDy j)) := by
  show (each fun j => iprop(_ ∗ _ ∗ _)) = _
  simp only [bigSep_sep']
theorem each_holdA : each (holdA (F := F) c)
    = iprop((each fun j => pos0 c (kDy j)) ∗ (each fun j => any c (tile pBuf j)) ∗ (each fun j => tok c (kYs j)) ∗ each fun j => tok (yDev c) (kYr j)) := by
  show (each fun j => iprop(_ ∗ _ ∗ _ ∗ _)) = _
  simp only [bigSep_sep']
theorem each_holdB : each (holdB (F := F) c)
    = iprop((each fun j => crd c (kYr j)) ∗ (each fun j => pos0 c (kYr j)) ∗ (each fun j => any c (tile redBuf j)) ∗ (each fun j => tok c (kXs j))
        ∗ (each fun j => tok (xDev c) (kXr j)) ∗ (each fun j => tok c (kA j)) ∗ each fun j => any c (outA c j)) := by
  show (each fun j => iprop(_ ∗ _ ∗ _ ∗ _ ∗ _ ∗ _ ∗ _)) = _
  simp only [bigSep_sep']
theorem each_preD : each (preD (F := F) c)
    = iprop((each fun j => crd c (kXr j)) ∗ (each fun j => pos0 c (kXr j)) ∗ (each fun j => tok c (kB j)) ∗ each fun j => any c (outB c j)) := by
  show (each fun j => iprop(_ ∗ _ ∗ _ ∗ _)) = _
  simp only [bigSep_sep']
theorem each_holdS : each (holdS (F := F) c)
    = iprop((each fun j => pos0 c (kYs j)) ∗ (each fun j => pos0 c (kXs j)) ∗ (each fun j => pos0 c (kA j)) ∗ each fun j => pos0 c (kB j)) := by
  show (each fun j => iprop(_ ∗ _ ∗ _ ∗ _)) = _
  simp only [bigSep_sep']

/-- The parts dealt to a device are what its first step wants, and the unused half of `W`. -/
theorem begin_intro :
    iprop(linear c ∗ (cred (tallyAt (barCell c) () 2) ∗ (each fun j => crd c (kYr j)) ∗ each fun j => crd c (kXr j)) ∗ args m c ∗ any c oM ∗ scratch c
        ∗ debt c (oweStart c)) ⊢ iprop(begin m c ∗ wRest m c) := by
  unfold linear payToks args scratch begin
  rw [cells_each, kinds_each, each_preDy, each_holdA, each_holdB, each_preD, each_holdS]
  unfold preMeet preW
  iintro ⟨⟨⟨Pbar, PW, PDy, PYs, PYr, PXs, PXr, PA, PB⟩, ⟨TbY, TbX⟩, TW, TDy, TYs, TYr, TXs, TXr, TA, TB⟩, ⟨CB, CY, CX⟩, ⟨M0, M1⟩, MO, ⟨MW, MD, MP, MY, MR, MX⟩, HO⟩
  ihave Hdy := (dy_split m c) $$ M0
  ihave Hw := (w_split m c) $$ M1
  icases Hw with ⟨Hw, Hrest⟩
  ihave Ho := (out_split c) $$ MO
  icases Ho with ⟨HA, HB⟩
  ihave HD := (slots_split c) $$ MD
  ihave HP := (tiles_split c pBuf) $$ MP
  ihave HY := (tiles_split c yBuf) $$ MY
  ihave HR := (tiles_split c redBuf) $$ MR
  ihave HX := (tiles_split c xBuf) $$ MX
  isplitr [Hrest]
  · isplitl [TbY TbX HY HX CB Pbar]
    · isplitl [TbY]; · iexact TbY
      isplitl [TbX]; · iexact TbX
      isplitl [HY]; · iexact HY
      isplitl [HX]; · iexact HX
      isplitl [CB]; · iexact CB
      iexact Pbar
    isplitl [Hw MW TW]
    · isplitl [Hw]; · iexact Hw
      isplitl [MW]; · iexact MW
      iexact TW
    isplitl [PW]; · iexact PW
    isplitl [Hdy HD TDy]
    · isplitl [Hdy]; · iexact Hdy
      isplitl [HD]; · iexact HD
      iexact TDy
    isplitl [PDy HP TYs TYr]
    · isplitl [PDy]; · iexact PDy
      isplitl [HP]; · iexact HP
      isplitl [TYs]; · iexact TYs
      iexact TYr
    isplitl [CY PYr HR TXs TXr TA HA]
    · isplitl [CY]; · iexact CY
      isplitl [PYr]; · iexact PYr
      isplitl [HR]; · iexact HR
      isplitl [TXs]; · iexact TXs
      isplitl [TXr]; · iexact TXr
      isplitl [TA]; · iexact TA
      iexact HA
    isplitl [CX PXr TB HB]
    · isplitl [CX]; · iexact CX
      isplitl [PXr]; · iexact PXr
      isplitl [TB]; · iexact TB
      iexact HB
    isplitl [PYs PXs PA PB]
    · isplitl [PYs]; · iexact PYs
      isplitl [PXs]; · iexact PXs
      isplitl [PA]; · iexact PA
      iexact PB
    iexact HO
  · iexact Hrest

/-! ## From the last step to the end -/

/-- The operands as they were, and the result in its blocks. -/
def done : sProp 𝕄 :=
  iprop(args m c ∗ ∃ f : Buf (Elt F) ((c : Thread nD τ).loc main_v1), ⌜Made c (rV m c) (rV m (xDev c)) f⌝ ∗ ((c : Thread nD τ).loc main_v1) ↦{fullShare} f)

theorem each_leaves : each (leaves m c)
    = iprop(((each fun j => pos1 c (kDy j)) ∗ (each fun j => pos1 c (kYs j)) ∗ (each fun j => pos1 c (kYr j)) ∗ (each fun j => pos1 c (kXs j))
          ∗ (each fun j => pos1 c (kXr j)) ∗ (each fun j => pos1 c (kA j)) ∗ each fun j => pos1 c (kB j))
        ∗ (each fun j => own c (dyRows j) fullShare (dyV m c j)) ∗ (each fun j => own c (outA c j) fullShare (rV m c j))
        ∗ (each fun j => own c (outB c j) fullShare (rV m (xDev c) j)) ∗ (each fun j => own c (dySlot j) fullShare (dyV m c j))
        ∗ (each fun j => own c (tile pBuf j) fullShare (pV m c j)) ∗ (each fun j => own c (tile yBuf j) fullShare (pV m (yDev c) j))
        ∗ (each fun j => own c (tile redBuf j) fullShare (rV m c j)) ∗ each fun j => own c (tile xBuf j) fullShare (rV m (xDev c) j)) := by
  show (each fun j => iprop((_ ∗ _ ∗ _ ∗ _ ∗ _ ∗ _ ∗ _) ∗ _ ∗ _ ∗ _ ∗ _ ∗ _ ∗ _ ∗ _ ∗ _)) = _
  simp only [bigSep_sep']

/-- Tiles at known contents make up a buffer at some contents. -/
theorem tiles_any (M : Memref sig .tc .vmem S8x128x512 .f32) (X : Fin 8 → Vec F S128x512 .f32) :
    (each fun j => own c (tile M j) fullShare (X j)) ⊢ any (F := F) c M :=
  BIBase.Entails.trans (bigSep_mono fun j _ => own_any c (tile M j) (X j)) (tiles_join c M)
theorem slots_any (X : Fin 8 → Vec F S128x4096 .f32) :
    (each fun j => own c (dySlot j) fullShare (X j)) ⊢ any (F := F) c dyBuf :=
  BIBase.Entails.trans (bigSep_mono fun j _ => own_any c (dySlot j) (X j)) (slots_join c)

/-- What the last step leaves, put together. -/
theorem finish_elim : iprop(finish m c ∗ wRest m c)
    ⊢ iprop(done m c ∗ scratch c ∗ (bigSep Finset.univ fun k : Cl => atPos ER (gcell (c, k)) 1 ∅ 0) ∗ debt c 0) := by
  unfold finish done scratch args
  rw [cells_each, kinds_each, each_leaves]
  iintro ⟨⟨⟨Pbar, PW⟩, ⟨Hw, HW⟩, ⟨⟨PDy, PYs, PYr, PXs, PXr, PA, PB⟩, Hdy, HA, HB, HD, HP, HY, HR, HX⟩, HO⟩, Hrest⟩
  ihave M0 := (dy_join m c) $$ Hdy
  ihave M1 := (w_join m c) $$ [Hw Hrest]
  · isplitl [Hw] <;> iassumption
  ihave MO := (out_join c (rV m c) (rV m (xDev c))) $$ [HA HB]
  · isplitl [HA] <;> iassumption
  ihave MW := (own_any c wxM (wV m c)) $$ HW
  ihave MD := (slots_any c (dyV m c)) $$ HD
  ihave MP := (tiles_any c pBuf (pV m c)) $$ HP
  ihave MY := (tiles_any c yBuf (pV m (yDev c))) $$ HY
  ihave MR := (tiles_any c redBuf (rV m c)) $$ HR
  ihave MX := (tiles_any c xBuf (rV m (xDev c))) $$ HX
  isplitl [M0 M1 MO]
  · isplitr [MO]
    · isplitl [M0] <;> iassumption
    iexact MO
  isplitl [MW MD MP MY MR MX]
  · isplitl [MW]; · iexact MW
    isplitl [MD]; · iexact MD
    isplitl [MP]; · iexact MP
    isplitl [MY]; · iexact MY
    isplitl [MR]; · iexact MR
    iexact MX
  isplitr [HO]
  · isplitl [Pbar]; · iexact Pbar
    isplitl [PW]; · iexact PW
    isplitl [PDy]; · iexact PDy
    isplitl [PYs]; · iexact PYs
    isplitl [PYr]; · iexact PYr
    isplitl [PXs]; · iexact PXs
    isplitl [PXr]; · iexact PXr
    isplitl [PA]; · iexact PA
    iexact PB
  iexact HO

/-- The device's semaphores leave the schedule at zero. -/
theorem close (K : Dev nD × Cl → ℕ) : iprop(ctx m K ∗ bigSep Finset.univ fun k : Cl => atPos ER (gcell (c, k)) 1 ∅ 0)
    ⊢ (|={Set.univ}=> iprop(unscopedSems0 c ∗ Pipeline.ownSems0 (Ix := Unit) (Name := ℕ) (U := UU) (Lvl := ℕ) (Val := Elt F) (τ := τ) osem c) : sProp 𝕄) := by
  rw [sems0_eq]
  have h (k : Cl) : iprop(ctx m K ∗ (atPos ER (gcell (c, k)) 1 ∅ 0 : sProp 𝕄)) ⊢ iprop(cellInv ER (rd m) (K (c, k)) (gcell (c, k)) ∗ atPos ER (gcell (c, k)) 1 ∅ 0) :=
    sep_mono_left (ctx_inv m K (c, k))
  exact BIBase.Entails.trans (share_out fun k _ => h k)
    (Rounds.cells_close ER (rd m) Finset.univ (fun k => gcell (c, k)) (fun k => K (c, k)) (fun _ _ => Set.mem_univ _) (fun _ _ h => h) (fun _ => 1)
      (fun k _ => duties_later m _))

end Device

/-! ## The body -/

/-- What holds before and after the one step of the launch: the part dealt to the device and its scratch buffers; then the
    result made and every semaphore back at zero. -/
def dats (_ : Fin 1) (c : Dev nD) : Dat τ (Elt F) Unit ℕ UU ℕ cfg0 c where
  A w := w.elim0
  after w := w.elim0
  Φ t := match t with
    | ⟨0, _⟩ => iprop(start m c ∗ scratch c)
    | ⟨_ + 1, _⟩ => iprop((done m c ∗ unscopedSems0 c) ∗ Pipeline.ownSems0 (Ix := Unit) (Name := ℕ) (U := UU) (Lvl := ℕ) (Val := Elt F) (τ := τ) osem c ∗ scratch c)
  q w := w.elim0
  owed t := match t with
    | ⟨0, _⟩ => oweStart c
    | ⟨_ + 1, _⟩ => 0

/-- What the body leaves. -/
def left (c : Dev nD) : sProp 𝕄 :=
  iprop(((done m c ∗ unscopedSems0 c) ∗ Pipeline.ownSems0 (Ix := Unit) (Name := ℕ) (U := UU) (Lvl := ℕ) (Val := Elt F) (τ := τ) osem c ∗ scratch c) ∗ debt c 0)

/-- The body, from the part dealt to the device to the result made. -/
theorem body_runs (c : Dev nD) (Q : PUnit → sProp 𝕄) :
    iprop(start m c ∗ scratch c ∗ debt c (oweStart c)) ⊢ iprop((left m c -∗ Q ⟨⟩) -∗ run c (do let d : Dev nD ← Prog.lift .deviceId; line (steps d)) Q) := by
  simp only [Prog.lift, Prog.bind_op, Prog.bind_ret, run, wp_deviceId]
  unfold start G'
  iintro ⟨⟨⟨%K, #HR, Hlin⟩, Hcr, #Hlev, Hargs, Hout⟩, Hscr, HO⟩ Hk
  ihave HB := (begin_intro m c) $$ [Hlin Hcr Hargs Hout Hscr HO]
  · isplitl [Hlin]; · iexact Hlin
    isplitl [Hcr]; · iexact Hcr
    isplitl [Hargs]; · iexact Hargs
    isplitl [Hout]; · iexact Hout
    isplitl [Hscr]; · iexact Hscr
    iexact HO
  icases HB with ⟨HB, Hrest⟩
  have hc : iprop(recs m K ∗ levAts L lv) ⊢ ctx m K := .rfl
  ihave #Hc := hc $$ []
  · isplitr; · iexact HR
    iexact Hlev
  iapply (wp_fupd (frame (Val := Elt F)) (wpE (defs₀ (F := F)) 𝒱₀ (c : Thread nD τ) none) Set.univ (line (steps c)) Q)
  iapply (run_steps m K c (fun a => iprop(|={Set.univ}=> Q a))) $$ [HB]
  · isplitr; · iexact Hc
    iexact HB
  iintro HF
  ihave HF := (finish_elim m c) $$ [HF Hrest]
  · isplitl [HF] <;> iassumption
  icases HF with ⟨Hdone, Hscr, Hpos, HO⟩
  imod (close m c K) $$ [Hpos] with ⟨Hus, Hos⟩
  · isplitr; · iexact Hc
    iexact Hpos
  imodintro
  iapply Hk
  unfold left
  isplitr [HO]
  · isplitl [Hdone Hus]
    · isplitl [Hdone] <;> iassumption
    isplitl [Hos] <;> iassumption
  iexact HO

set_option maxRecDepth 100000 in
theorem body_obligation (c : Dev nD) : BodyObligation (dats (F := F) m 0 c) (defs₀ (F := F)) 𝒱₀ () Set.univ := fun t => by
  rw [fin_N0 t]
  show iprop(iprop(start m c ∗ scratch c) ∗ (∃ W, ⌜_⌝ ∗ owes (c : Thread nD τ) (oweStart c) W) ∗ _)
    ⊢ run c (cc0_body (F := F) dyM (Memref.isWhole_whole _) wM (Memref.isWhole_whole _) oM (Memref.isWhole_whole _)
      wxM (Memref.isWhole_whole _) dyBuf (Memref.isWhole_whole _) pBuf (Memref.isWhole_whole _) yBuf (Memref.isWhole_whole _)
      redBuf (Memref.isWhole_whole _) xBuf (Memref.isWhole_whole _)
      cc0_scratch6 cc0_scratch7 cc0_scratch8 cc0_scratch9 cc0_scratch10 cc0_scratch11 cc0_scratch12)
      fun _ => iprop(iprop((done m c ∗ unscopedSems0 c) ∗ Pipeline.ownSems0 osem c ∗ scratch c) ∗ (∃ W, ⌜_⌝ ∗ owes (c : Thread nD τ) 0 W) ∗ _)
  rw [body_eq]
  iintro ⟨⟨Hs, Hscr⟩, ⟨%W, -, HO⟩, -⟩
  iapply (body_runs m c _) $$ [Hs Hscr HO]
  · isplitl [Hs]; · iexact Hs
    isplitl [Hscr]; · iexact Hscr
    unfold debt
    iexists W; iexact HO
  unfold left debt
  iintro ⟨HΦ, %W', HO⟩
  isplitl [HΦ]; · iexact HΦ
  isplitl [HO]
  · iexists W'
    isplitr; · ipureintro; exact fun _ _ => Or.inl trivial
    iexact HO
  · rw [Finset.univ_eq_empty, bigSep_empty]
    iempintro

/-! ## The launch -/

theorem share_eq (c : Dev nD) (w : Fin cfg0.W) : (dats (F := F) m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

theorem start_intro (ρ : Dev nD → PrngReg) (c : Dev nD) :
    iprop(Pipeline.unscopedRestP Pipeline.Prefetch.none cfg0.spec c (fun b => m ((c : Thread nD τ).loc b)) ∗ levAts L lv
        ∗ Pipeline.launchCred oweStart c ∗ prngReg c (ρ c) ∗ G' m c)
      ⊢ |={Set.univ}=> iprop(start m c ∗ emp) := by
  rw [Pipeline.unscopedRestP_none, unscopedRest0_eq]
  iintro ⟨⟨H0, H1, HV⟩, Hlev, Hcr, -, HG⟩
  ihave Hc := (creds (F := F) c) $$ Hcr
  imodintro
  unfold start args
  isplitl
  · isplitl [HG]; · iexact HG
    isplitl [Hc]; · iexact Hc
    isplitl [Hlev]; · iexact Hlev
    isplitl [H0 H1]
    · isplitl [H0] <;> iassumption
    · iapply (Entails.of_eq (any_whole c main_v1).symm)
      iexists _; iexact HV
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

theorem last_elim (c : Dev nD) :
    (dats m 0 c).Φ (Fin.last cfg0.N) ⊢ iprop((done m c ∗ unscopedSems0 c) ∗ Pipeline.ownSems0 osem c ∗ Pipeline.scopedRest cfg0.spec c) := by
  rw [scratch_eq]
  exact .rfl

/-- What the run leaves on device `c`: the operands as they were, the result in its blocks. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ Made c (rV m c) (rV m (xDev c)) (s.mem ((c : Thread nD τ).loc main_v1))

/-- The end of a device is read off its memory. -/
theorem read_end (c : Dev nD) (s' : Phys nD τ sig (Elt F)) :
    iprop((done m c ∗ unscopedSems0 c) ∗ emp ∗ SI s')
      ⊢ (|={Set.univ}=> iprop(⌜Final m c s'.mem ∧ ∀ sm : SemLoc sig, sm.isScoped .tc = false → s'.mem.sem ((c.tc : Thread nD τ), sm) = 0⌝ ∗ SI s') : sProp 𝕄) := by
  unfold done args
  iintro ⟨⟨⟨⟨H0, H1⟩, %f, %hf, HV⟩, Hu⟩, -, HSI⟩
  icombine HSI H0 gives %h0
  icombine HSI H1 gives %h1
  icombine HSI HV gives %hv
  have e0 := Buf.eq_of_forall_mem_univ h0
  have e1 := Buf.eq_of_forall_mem_univ h1
  have ev := Buf.eq_of_forall_mem_univ hv
  imod (Pipeline.unscopedSems0_read (X := unscopedSems0 c) (c := c) fupd_intro s') $$ [Hu HSI] with ⟨%hs, HSI⟩
  · isplitl [Hu] <;> iassumption
  imodintro
  isplitr
  · ipureintro
    exact ⟨⟨⟨e0, e1⟩, by rw [ev]; exact hf⟩, hs⟩
  iexact HSI

set_option maxRecDepth 100000 in
/-- From any memory with every semaphore at zero, every weakly fair run of the sixteen devices ends; and at the end every
    device's operands are as they were, its result holds its own sums in its own half of the columns and its x partner's
    in the other, and every semaphore is at zero. -/
theorem run_main (ρ : Dev nD → PrngReg) : θ_run defs (onTc (τ := τ) (main (F := F))) ⟨m, fun _ => 0, ρ⟩
    (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := oweStart) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(done m c ∗ unscopedSems0 c)) (Z := fun _ => iprop(emp))
    (hX := start_intro m ρ) (hin := first_intro m) (hout := last_elim m)
    (QY := fun c s => Final m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelProof

end
-- ==== Proof.Value.lean ====
/-
# The value

Over the ideal numbers a device's partial product is a sum over half of the contraction's columns, its y partner's the
sum over the other half; together they are a block of `dy · Wᵀ`. The blocks of the two halves of the result's columns make
the whole product, whatever the device; and the reference computes the same product.
-/
module

public import proofs.«01_k».proof.Proof.Pieces
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelProof

open Cert.KernelIdeal Cert.KernelIdeal.Gen
open Idealize.ShloMosaic
open Idealize.ShloMosaic.TcCoe
open Idealize.ShloMosaic.ValueIdx
open Idealize.SL.Sem

/-- A whole operand. -/
abbrev Whole : Type := (⟨2, ![1024, 8192]⟩ : Shape).Idx → EReal

/-- Entry `(r, n)` of `X · Wᵀ`. -/
def entry (X W : Whole) (r n : Fin 1024) : EReal := ∑ k : Fin 8192, X (ix2 r k) * W (ix2 n k)

/-- Column `k` of half `y` of the contraction. -/
def col (y : Fin 2) (k : Fin 4096) : Fin 8192 := ⟨y.val * 4096 + k.val, by omega⟩

/-- The part of entry `(r, n)` that half `y` of the contraction gives. -/
def part (X W : Whole) (y : Fin 2) (r n : Fin 1024) : EReal := ∑ k : Fin 4096, X (ix2 r (col y k)) * W (ix2 n (col y k))

theorem entry_halves (X W : Whole) (r n : Fin 1024) : entry X W r n = part X W 0 r n + part X W 1 r n := by
  unfold entry part
  rw [show (∑ k : Fin 8192, X (ix2 r k) * W (ix2 n k)) = ∑ k : Fin (4096 + 4096), X (ix2 r k) * W (ix2 n k) from rfl, Fin.sum_univ_add]
  refine congrArg₂ (· + ·) (Finset.sum_congr rfl fun k _ => ?_) (Finset.sum_congr rfl fun k _ => ?_)
  · rw [show Fin.castAdd 4096 k = col 0 k from Fin.ext (by simp [col])]
  · rw [show Fin.natAdd 4096 k = col 1 k from Fin.ext (by simp [col, Nat.add_comm])]

/-- The halves in either order. -/
theorem entry_parts (X W : Whole) (r n : Fin 1024) (y y' : Fin 2) (h : y ≠ y') : part X W y r n + part X W y' r n = entry X W r n := by
  rw [entry_halves]
  have hy : (y = 0 ∧ y' = 1) ∨ (y = 1 ∧ y' = 0) := by revert y y'; decide
  rcases hy with ⟨rfl, rfl⟩ | ⟨rfl, rfl⟩
  · rfl
  · exact add_comm _ _

/-! ## The devices -/

/-- Which half of the contraction a device holds. -/
def yOf (c : Dev nD) : Fin 2 := ⟨c.val / 4 % 2, Nat.mod_lt _ (by decide)⟩
/-- Which half of the result's columns a device computes. -/
def xOf (c : Dev nD) : Fin 2 := ⟨c.val / 8, by have : c.val < 16 := c.isLt; omega⟩

theorem yOf_yDev (c : Dev nD) : yOf c ≠ yOf (yDev c) := by revert c; decide +kernel
theorem xOf_yDev (c : Dev nD) : xOf (yDev c) = xOf c := by revert c; decide +kernel
theorem xOf_xDev (c : Dev nD) : xOf c ≠ xOf (xDev c) := by revert c; decide +kernel
theorem off_w (c : Dev nD) : k0_off1 c 0 = 512 * (xOf c).val ∧ k0_off1 c 1 = 0 := by revert c; decide +kernel
theorem off_own (c : Dev nD) : k0_off2 c 1 = 512 * (xOf c).val := by revert c; decide +kernel
theorem off_other (c : Dev nD) : k0_off5 c 1 = 512 * (xOf (xDev c)).val := by revert c; decide +kernel
theorem lin_y (c : Dev nD) : Layout.meshLin [2, 2, 4] c.val [1] = (yOf c).val := by revert c; decide +kernel

/-- Row `a` of chunk `j`. -/
def row (j : Fin 8) (a : Fin 128) : Fin 1024 := ⟨128 * j.val + a.val, by omega⟩
/-- Column `b` of half `x` of the result. -/
def ocol (x : Fin 2) (b : Fin 512) : Fin 1024 := ⟨512 * x.val + b.val, by omega⟩

theorem exists_row (r : Fin 1024) : ∃ j a, row j a = r :=
  ⟨⟨r.val / 128, by omega⟩, ⟨r.val % 128, Nat.mod_lt _ (by decide)⟩, Fin.ext (by simp only [row]; omega)⟩
theorem exists_ocol (n : Fin 1024) : ∃ x b, ocol x b = n :=
  ⟨⟨n.val / 512, by omega⟩, ⟨n.val % 512, Nat.mod_lt _ (by decide)⟩, Fin.ext (by simp only [ocol]; omega)⟩

section Values
variable {F : FTy → Type} [FloatOps F] (m : (ℓ : Loc nD τ sig) → Buf (Elt F) ℓ) (c : Dev nD)

/-- A chunk of `dy`, by its rows. -/
theorem dyV_at (j : Fin 8) (a : Fin 128) (k : Fin 4096) :
    dyV m c j (ix2 a k) = m ((c : Thread nD τ).loc main_arg0) (ix2 (row j a) k) := by
  show m ((c : Thread nD τ).loc main_arg0) ((rR j).emb (ix2 a k)) = _
  refine congrArg _ ?_
  funext x
  apply Fin.ext
  match x with
  | ⟨0, _⟩ => show 128 * j.val + 1 * a.val = 128 * j.val + a.val; omega
  | ⟨1, _⟩ => show 0 + 1 * k.val = k.val; omega
/-- The used half of `W`, by its rows. -/
theorem wV_at (b : Fin 512) (k : Fin 4096) :
    wV m c (ix2 b k) = m ((c : Thread nD τ).loc main_arg1) (ix2 (ocol (xOf c) b) k) := by
  show m ((c : Thread nD τ).loc main_arg1) ((rW c).emb (ix2 b k)) = _
  refine congrArg _ ?_
  funext x
  apply Fin.ext
  match x with
  | ⟨0, _⟩ => show k0_off1 c 0 + 1 * b.val = 512 * (xOf c).val + b.val; rw [(off_w c).1]; omega
  | ⟨1, _⟩ => show k0_off1 c 1 + 1 * k.val = k.val; rw [(off_w c).2]; omega

/-- A block of the result's own half, by its rows and columns. -/
theorem outA_at (f : Buf (Elt F) ((c : Thread nD τ).loc main_v1)) (j : Fin 8) (a : Fin 128) (b : Fin 512) :
    (outA c j).view.read (Elt F) f (ix2 a b) = f (ix2 (row j a) (ocol (xOf c) b)) := by
  show f ((rO c (false, j)).emb (ix2 a b)) = _
  refine congrArg f ?_
  funext x
  apply Fin.ext
  match x with
  | ⟨0, _⟩ => show 128 * j.val + 1 * a.val = 128 * j.val + a.val; omega
  | ⟨1, _⟩ => show k0_off2 c 1 + 1 * b.val = 512 * (xOf c).val + b.val; rw [off_own]; omega
/-- A block of the other half. -/
theorem outB_at (f : Buf (Elt F) ((c : Thread nD τ).loc main_v1)) (j : Fin 8) (a : Fin 128) (b : Fin 512) :
    (outB c j).view.read (Elt F) f (ix2 a b) = f (ix2 (row j a) (ocol (xOf (xDev c)) b)) := by
  show f ((rO c (true, j)).emb (ix2 a b)) = _
  refine congrArg f ?_
  funext x
  apply Fin.ext
  match x with
  | ⟨0, _⟩ => show 128 * j.val + 1 * a.val = 128 * j.val + a.val; omega
  | ⟨1, _⟩ => show k0_off5 c 1 + 1 * b.val = 512 * (xOf (xDev c)).val + b.val; rw [off_other]; omega

end Values

/-! ## Over the ideal numbers -/

/-- Every device holds its half of the contraction's columns of both operands. -/
def Holds (m : (ℓ : Loc nD τ sig) → Buf (Elt Ideal) ℓ) (X W : Whole) : Prop :=
  ∀ c : Dev nD,
    m ((c.tc : Thread nD τ).loc main_arg0) = Layout.blockN ⟨2, ![1024, 4096]⟩ ⟨2, ![1024, 8192]⟩ (Layout.meshBlock [2, 2, 4] ![[], [1]] c) X
    ∧ m ((c.tc : Thread nD τ).loc main_arg1) = Layout.blockN ⟨2, ![1024, 4096]⟩ ⟨2, ![1024, 8192]⟩ (Layout.meshBlock [2, 2, 4] ![[], [1]] c) W

/-- Device `c`'s block of an operand, by its rows and columns. -/
theorem block_at (c : Dev nD) (X : Whole) (r : Fin 1024) (k : Fin 4096) :
    (Layout.blockN ⟨2, ![1024, 4096]⟩ ⟨2, ![1024, 8192]⟩ (Layout.meshBlock [2, 2, 4] ![[], [1]] c) X : (⟨2, ![1024, 4096]⟩ : Shape).Idx → EReal) (ix2 r k) = X (ix2 r (col (yOf c) k)) := by
  rw [Layout.blockN_apply]
  refine congrArg X ?_
  funext x
  apply Fin.ext
  rw [Layout.TilesN.idx_val]
  match x with
  | ⟨0, _⟩ => show Layout.meshLin [2, 2, 4] c.val [] * 1024 + r.val = r.val; simp [Layout.meshLin]
  | ⟨1, _⟩ => show Layout.meshLin [2, 2, 4] c.val [1] * 4096 + k.val = (yOf c).val * 4096 + k.val; rw [lin_y]

section Ideal
variable {m : (ℓ : Loc nD τ sig) → Buf (Elt Ideal) ℓ} {X W : Whole} (h : Holds m X W) (c : Dev nD)
include h

/-- A device's partial product: the part its half of the contraction gives. -/
theorem pV_at (j : Fin 8) (a : Fin 128) (b : Fin 512) : pV m c j (ix2 a b) = part X W (yOf c) (row j a) (ocol (xOf c) b) := by
  unfold pV matmul
  rw [show dot_S128x4096_S512x4096_S128x512_1_1_0_0_n_n = DotDims.transposedRhs 128 4096 512 from rfl, Ideal.matmul_transposedRhs_apply]
  rw [show constant (F := Ideal) S128x512 .f32 0x00000000#32 (ix2 a b) = 0 from Ideal.ofBits_zero_f32, zero_add]
  refine Finset.sum_congr rfl fun k _ => ?_
  rw [dyV_at, wV_at, (h c).1, (h c).2, block_at, block_at]

/-- A device's reduced chunk: its block of the product. -/
theorem rV_at (j : Fin 8) (a : Fin 128) (b : Fin 512) : rV m c j (ix2 a b) = entry X W (row j a) (ocol (xOf c) b) := by
  show pV m c j (ix2 a b) + pV m (yDev c) j (ix2 a b) = _
  rw [pV_at h, pV_at h, xOf_yDev, entry_parts X W _ _ _ _ (yOf_yDev c)]

/-- The result in its blocks is the product. -/
theorem made_entry (f : Buf (Elt Ideal) ((c : Thread nD τ).loc main_v1)) (hf : Made c (rV m c) (rV m (xDev c)) f) (r n : Fin 1024) :
    f (ix2 r n) = entry X W r n := by
  obtain ⟨j, a, rfl⟩ := exists_row r
  obtain ⟨x, b, rfl⟩ := exists_ocol n
  have hx : x = xOf c ∨ x = xOf (xDev c) := by
    have := xOf_xDev c
    generalize xOf c = u at this ⊢
    generalize xOf (xDev c) = v at this ⊢
    revert x u v; decide
  rcases hx with rfl | rfl
  · rw [← outA_at c f, (hf j).1, rV_at h]
  · rw [← outB_at c f, (hf j).2, rV_at h]

end Ideal

/-! ## The reference -/

/-- What the reference computes. -/
def refOut (X W : Whole) : (⟨2, ![1024, 1024]⟩ : Shape).Idx → EReal :=
  Host.dotGeneral (F := Ideal) (φ₁ := .f32) (φ₂ := .f32) Cert.ReferenceIdeal.dot_S1024x8192_S8192x1024_S1024x1024_1_0_0_1_n_n none X
    (transpose Cert.ReferenceIdeal.S8192x1024 [1, 0] W Cert.ReferenceIdeal.Gen.transposes_S1024x8192_S8192x1024_1_0)

theorem refOut_at (X W : Whole) (r n : Fin 1024) : refOut X W (ix2 r n) = entry X W r n := by
  unfold refOut
  rw [show Cert.ReferenceIdeal.dot_S1024x8192_S8192x1024_S1024x1024_1_0_0_1_n_n = DotDims.plain 1024 8192 1024 from rfl, StackMember.dotGeneral_plain_apply]
  refine Finset.sum_congr rfl fun k _ => congrArg (X (ix2 r k) * ·) ?_
  refine transpose_apply _ _ _ _ (ix2 n k) fun b => ?_
  match b with
  | ⟨0, _⟩ => rfl
  | ⟨1, _⟩ => rfl

/-- The result of every device is the reference's. -/
theorem made_refOut {m : (ℓ : Loc nD τ sig) → Buf (Elt Ideal) ℓ} {X W : Whole} (h : Holds m X W) (c : Dev nD)
    (f : Buf (Elt Ideal) ((c : Thread nD τ).loc main_v1)) (hf : Made c (rV m c) (rV m (xDev c)) f) : f = refOut X W := by
  funext i
  obtain ⟨r, n, rfl⟩ : ∃ r n, i = ix2 r n := ⟨i 0, i 1, eq_ix2 i⟩
  rw [made_entry h c f hf, refOut_at]

end Cert.KernelProof

end
-- ==== Proof.lean ====
/-
# The certificate

The kernel's run, over any float values, is `run_main`: its frame at the bit patterns and at the ideal numbers are two
instances of it, and the equation with the reference is its ideal instance with the value read off the blocks.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem
open Cert.KernelProof (run_main Holds refOut made_refOut)

/-- The kernel over bit patterns ends, its operands unchanged and every semaphore at zero. -/
theorem frame_kernel : Cert.quiescent_Kernel := fun m ρ _ =>
  (θ_run Cert.KernelIdeal.defs _ _).mono (fun _ h => ⟨fun c => (h.1 c).1, h.2⟩) (run_main (F := Bits) m ρ)

/-- The kernel over the ideal numbers ends, its operands unchanged and every semaphore at zero. -/
theorem frame_kernel_ideal : Cert.quiescent_KernelIdeal := fun m ρ _ =>
  (θ_run Cert.KernelIdeal.defs _ _).mono (fun _ h => ⟨fun c => (h.1 c).1, h.2⟩) (run_main (F := Ideal) m ρ)

/-- The reference ends, its operands unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the ideal numbers every device's result is the reference's. -/
theorem algebraic : Cert.algebraic_KernelIdeal_ReferenceIdeal := fun m ρ m' ρ' _ h =>
  ⟨refOut _ _,
    (θ_run Cert.KernelIdeal.defs _ _).mono (fun _ hr c => ⟨made_refOut h c _ (hr.1 c).2, (hr.1 c).1⟩) (run_main (F := Ideal) m ρ),
    (θ_run Cert.ReferenceIdeal.defs _ _).mono (fun _ hr => hr 0) (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts,
    frame_kernel, frame_kernel_ideal, frame_reference, trivial, algebraic⟩

end Cert.Proof

end
